-- ==== Defs.lean ====
def Pre_Select (m : (ℓ : Loc Cert.Select.nD Cert.Select.τ Cert.Select.sig) → Buf (Elt Bits) ℓ) : Prop :=
  True

def Pre_Select_no_top_word [hPre_no_top_word : Cert.Pre_no_top_word.Facts] (m : (ℓ : Loc Cert.Select.nD Cert.Select.τ Cert.Select.sig) → Buf (Elt Bits) ℓ) : Prop :=
  ∀ c : Dev Cert.Select.nD,
    (Cert.Pre_no_top_word.fn (F := Bits) (m ((c.tc : Thread Cert.Select.nD Cert.Select.τ).loc Cert.Select.main_arg0))) = (fun _ => 1#1)

def Pre_SelectRef [hPre_no_top_word : Cert.Pre_no_top_word.Facts] (m : (ℓ : Loc Cert.SelectRef.nD Cert.SelectRef.τ Cert.SelectRef.sig) → Buf (Elt Bits) ℓ) : Prop :=
  ∀ c : Dev Cert.SelectRef.nD,
    (Cert.Pre_no_top_word.fn (F := Bits) (m ((c.tc : Thread Cert.SelectRef.nD Cert.SelectRef.τ).loc Cert.SelectRef.main_arg0))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_Select_pre_no_top_word [hSelect : Cert.Select.Facts] [hPre_no_top_word : Cert.Pre_no_top_word.Facts] : Prop :=
  ∀ (m : (ℓ : Loc Cert.Select.nD Cert.Select.τ Cert.Select.sig) → Buf (Elt Bits) ℓ) (g : Dev Cert.Select.nD → PrngReg), Pre_Select_no_top_word m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectRef [hSelectRef : Cert.SelectRef.Facts] [hPre_no_top_word : Cert.Pre_no_top_word.Facts] : Prop :=
  ∀ (m : (ℓ : Loc Cert.SelectRef.nD Cert.SelectRef.τ Cert.SelectRef.sig) → Buf (Elt Bits) ℓ) (g : Dev Cert.SelectRef.nD → PrngReg), Pre_SelectRef m →
    θ_run (Cert.SelectRef.defs (F := Bits)) (onTc (τ := Cert.SelectRef.τ) (Cert.SelectRef.main (F := Bits))) ⟨m, fun _ => 0, g⟩ (fun r => (∀ c : Dev Cert.SelectRef.nD,
      r.2.mem ((c.tc : Thread Cert.SelectRef.nD Cert.SelectRef.τ).loc Cert.SelectRef.main_arg0) = m ((c.tc : Thread Cert.SelectRef.nD Cert.SelectRef.τ).loc Cert.SelectRef.main_arg0))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def bitexact_Select_SelectRef_pre_no_top_word [hSelect : Cert.Select.Facts] [hSelectRef : Cert.SelectRef.Facts] [hPre_no_top_word : Cert.Pre_no_top_word.Facts] : Prop :=
  ∀ (m : (ℓ : Loc Cert.Select.nD Cert.Select.τ Cert.Select.sig) → Buf (Elt Bits) ℓ) (g : Dev Cert.Select.nD → PrngReg)
    (m' : (ℓ : Loc Cert.SelectRef.nD Cert.SelectRef.τ Cert.SelectRef.sig) → Buf (Elt Bits) ℓ) (g' : Dev Cert.SelectRef.nD → PrngReg), Pre_Select_no_top_word m →
    (∀ c : Dev Cert.Select.nD,
      m' ((c.tc : Thread Cert.SelectRef.nD Cert.SelectRef.τ).loc Cert.SelectRef.main_arg0) = m ((c.tc : Thread Cert.Select.nD Cert.Select.τ).loc Cert.Select.main_arg0)) →
    ∃ (v0 : (c : Dev Cert.Select.nD) → Buf (Elt Bits) ((c.tc : Thread Cert.Select.nD Cert.Select.τ).loc Cert.Select.main_v0_0)) (v1 : (c : Dev Cert.Select.nD) → Buf (Elt Bits) ((c.tc : Thread Cert.Select.nD Cert.Select.τ).loc Cert.Select.main_v0_1)),
      θ_run (Cert.Select.defs (F := Bits)) (onTc (τ := Cert.Select.τ) (Cert.Select.main (F := Bits))) ⟨m, fun _ => 0, g⟩ (fun r => ∀ c : Dev Cert.Select.nD,
          r.2.mem ((c.tc : Thread Cert.Select.nD Cert.Select.τ).loc Cert.Select.main_v0_0) = v0 c
          ∧ r.2.mem ((c.tc : Thread Cert.Select.nD Cert.Select.τ).loc Cert.Select.main_v0_1) = v1 c
          ∧ r.2.mem ((c.tc : Thread Cert.Select.nD Cert.Select.τ).loc Cert.Select.main_arg0) = m ((c.tc : Thread Cert.Select.nD Cert.Select.τ).loc Cert.Select.main_arg0))
      ∧ θ_run (Cert.SelectRef.defs (F := Bits)) (onTc (τ := Cert.SelectRef.τ) (Cert.SelectRef.main (F := Bits))) ⟨m', fun _ => 0, g'⟩ (fun r => ∀ c : Dev Cert.SelectRef.nD,
          r.2.mem ((c.tc : Thread Cert.SelectRef.nD Cert.SelectRef.τ).loc Cert.SelectRef.main_v0) = v0 c
          ∧ r.2.mem ((c.tc : Thread Cert.SelectRef.nD Cert.SelectRef.τ).loc Cert.SelectRef.main_v1) = v1 c
          ∧ r.2.mem ((c.tc : Thread Cert.SelectRef.nD Cert.SelectRef.τ).loc Cert.SelectRef.main_arg0) = m' ((c.tc : Thread Cert.SelectRef.nD Cert.SelectRef.τ).loc Cert.SelectRef.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v57_0)) (v2 : (c : Dev Cert.KernelIdeal.nD) → Buf (Elt Ideal) ((c.tc : Thread Cert.KernelIdeal.nD Cert.KernelIdeal.τ).loc Cert.KernelIdeal.main_v57_1)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v57_0) = v1 c
          ∧ r.2.mem ((c.tc : Thread Cert.KernelIdeal.nD Cert.KernelIdeal.τ).loc Cert.KernelIdeal.main_v57_1) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hSelect : Cert.Select.Facts) (hSelectRef : Cert.SelectRef.Facts) (hKernel : Cert.Kernel.Facts) (hKernelIdeal : Cert.KernelIdeal.Facts) (hReferenceIdeal : Cert.ReferenceIdeal.Facts) (hPre_no_top_word : Cert.Pre_no_top_word.Facts),
    quiescent_Select (hSelect := hSelect)
    ∧ quiescent_Select_pre_no_top_word (hSelect := hSelect) (hPre_no_top_word := hPre_no_top_word)
    ∧ quiescent_SelectRef (hSelectRef := hSelectRef) (hPre_no_top_word := hPre_no_top_word)
    ∧ quiescent_Kernel (hKernel := hKernel)
    ∧ quiescent_KernelIdeal (hKernelIdeal := hKernelIdeal)
    ∧ quiescent_ReferenceIdeal (hReferenceIdeal := hReferenceIdeal)
    ∧ bitexact_Select_SelectRef_pre_no_top_word (hSelect := hSelect) (hSelectRef := hSelectRef) (hPre_no_top_word := hPre_no_top_word)
    ∧ preserves_Kernel_KernelIdeal
    ∧ algebraic_KernelIdeal_ReferenceIdeal (hKernelIdeal := hKernelIdeal) (hReferenceIdeal := hReferenceIdeal)
-- ==== Pre_no_top_word.lean ====
abbrev S10000x10000 : Shape := ⟨2, ![10000, 10000]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel

variable [Facts]

def fn {F : FTy → Type} [BitOps F] (main_arg0 : FVec F S10000x10000 .f32) : IVec S_ 1 :=
  let main_v0 : IVec S10000x10000 32 := bitcastToInt main_arg0
  let main_c : IVec S_ 32 := constantI S_ 32 2147483647#32
  let main_v1 : IVec S10000x10000 32 := broadcastInDim S10000x10000 ![] bcast_S_S10000x10000 main_c
  let main_v2 : IVec S10000x10000 1 := cmpi .ne main_v0 main_v1
  let main_c_0 : IVec S_ 1 := constantI S_ 1 1#1
  let main_v3 : IVec S_ 1 := (fun x v => Host.reduce IntOp.andi x v reducesTo_S10000x10000_S_d0_1 h_S_) main_v2 main_c_0
  main_v3
-- ==== Select.lean ====
abbrev S10000x10000 : Shape := ⟨2, ![10000, 10000]⟩
abbrev S10000x1 : Shape := ⟨2, ![10000, 1]⟩
abbrev S200x10000 : Shape := ⟨2, ![200, 10000]⟩
abbrev S200x1 : Shape := ⟨2, ![200, 1]⟩
abbrev S200 : Shape := ⟨1, ![200]⟩
abbrev S1x200x1 : Shape := ⟨3, ![1, 200, 1]⟩
abbrev S1 : Shape := ⟨1, ![1]⟩
abbrev S1x1x1 : Shape := ⟨3, ![1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x1, .f32⟩
  | .hbm, ⟨2, _⟩ => ⟨S10000x1, .i32⟩
  | .local _ .vmem, ⟨0, _⟩ => ⟨S200x10000, .f32⟩
  | .local _ .vmem, ⟨1, _⟩ => ⟨S200x10000, .f32⟩
  | .local _ .vmem, ⟨2, _⟩ => ⟨S200x1, .f32⟩
  | .local _ .vmem, ⟨3, _⟩ => ⟨S200x1, .f32⟩
  | .local _ .vmem, ⟨4, _⟩ => ⟨S200x1, .i32⟩
  | .local _ .vmem, ⟨5, _⟩ => ⟨S200x1, .i32⟩
  | .local _ .vmem, ⟨6, _⟩ => ⟨S200x10000, .i32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![50], ![false]⟩

@[reducible] def k0_t1_loop : Scf.Loop 32 :=
  let c0_i32_7 : BitVec 32 := 0#32
  let c32_i32 : BitVec 32 := 32#32
  let v18 : BitVec 32 := Scalar.addi c0_i32_7 c32_i32
  let c1_i32_8 : BitVec 32 := 1#32
  ⟨c0_i32_7, v18, c1_i32_8⟩
@[reducible] def k0_t2_loop : Scf.Loop 32 :=
  let c0_i32_12 : BitVec 32 := 0#32
  let c14_i32 : BitVec 32 := 14#32
  let v36 : BitVec 32 := Scalar.addi c0_i32_12 c14_i32
  let c1_i32_13 : BitVec 32 := 1#32
  ⟨c0_i32_12, v36, c1_i32_13⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SelectRef.lean ====
abbrev S10000x10000 : Shape := ⟨2, ![10000, 10000]⟩
abbrev S10000x30 : Shape := ⟨2, ![10000, 30]⟩
abbrev S10000x1 : Shape := ⟨2, ![10000, 1]⟩

abbrev nBuf : Space → Nat
  | .hbm => 5
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x30, .f32⟩
  | .hbm, ⟨2, _⟩ => ⟨S10000x30, .i32⟩
  | .hbm, ⟨3, _⟩ => ⟨S10000x1, .f32⟩
  | .hbm, ⟨4, _⟩ => ⟨S10000x1, .i32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x128 : Shape := ⟨2, ![2, 128]⟩
abbrev S128x128 : Shape := ⟨2, ![128, 128]⟩
abbrev S128x16 : Shape := ⟨2, ![128, 16]⟩
abbrev S16 : Shape := ⟨1, ![16]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x256 : Shape := ⟨2, ![10000, 256]⟩
abbrev S1x256 : Shape := ⟨2, ![1, 256]⟩
abbrev S1x128 : Shape := ⟨2, ![1, 128]⟩
abbrev S128x10000 : Shape := ⟨2, ![128, 10000]⟩
abbrev S10000x30 : Shape := ⟨2, ![10000, 30]⟩
abbrev S80x10000 : Shape := ⟨2, ![80, 10000]⟩
abbrev S80x1 : Shape := ⟨2, ![80, 1]⟩
abbrev S80 : Shape := ⟨1, ![80]⟩
abbrev S400x10000 : Shape := ⟨2, ![400, 10000]⟩
abbrev S400x1 : Shape := ⟨2, ![400, 1]⟩
abbrev S400x128 : Shape := ⟨2, ![400, 128]⟩
abbrev S10000x16 : Shape := ⟨2, ![10000, 16]⟩
abbrev S1x16 : Shape := ⟨2, ![1, 16]⟩
abbrev S400x16 : Shape := ⟨2, ![400, 16]⟩

abbrev nBuf : Space → Nat
  | .hbm => 114
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S_, .f32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .i1⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x10000, .f32⟩
  | .hbm, ⟨26, _⟩ => ⟨S10000x10000, .f32⟩
  | .hbm, ⟨27, _⟩ => ⟨S1x10000, .f32⟩
  | .hbm, ⟨28, _⟩ => ⟨S10000x10000, .f32⟩
  | .hbm, ⟨29, _⟩ => ⟨S10000x10000, .f32⟩
  | .hbm, ⟨30, _⟩ => ⟨S10000x256, .f32⟩
  | .hbm, ⟨31, _⟩ => ⟨S10000x256, .f32⟩
  | .hbm, ⟨32, _⟩ => ⟨S1x256, .f32⟩
  | .hbm, ⟨33, _⟩ => ⟨S10000x256, .f32⟩
  | .hbm, ⟨34, _⟩ => ⟨S10000x256, .f32⟩
  | .hbm, ⟨35, _⟩ => ⟨S_, .f32⟩
  | .hbm, ⟨36, _⟩ => ⟨S10000x256, .f32⟩
  | .hbm, ⟨37, _⟩ => ⟨S10000x256, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x10000, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000, .f32⟩
  | .hbm, ⟨53, _⟩ => ⟨S10000x1, .f32⟩
  | .hbm, ⟨54, _⟩ => ⟨S10000x1, .f32⟩
  | .hbm, ⟨55, _⟩ => ⟨S_, .f32⟩
  | .hbm, ⟨56, _⟩ => ⟨S10000x1, .f32⟩
  | .hbm, ⟨57, _⟩ => ⟨S10000x1, .f32⟩
  | .hbm, ⟨58, _⟩ => ⟨S10000x128, .f32⟩
  | .hbm, ⟨59, _⟩ => ⟨S10000x128, .f32⟩
  | .hbm, ⟨60, _⟩ => ⟨S128x10000, .f32⟩
  | .hbm, ⟨61, _⟩ => ⟨S10000x10000, .f32⟩
  | .hbm, ⟨62, _⟩ => ⟨S10000x10000, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S_, .f32⟩
  | .hbm, ⟨70, _⟩ => ⟨S10000, .f32⟩
  | .hbm, ⟨71, _⟩ => ⟨S10000x1, .f32⟩
  | .hbm, ⟨72, _⟩ => ⟨S10000x1, .f32⟩
  | .hbm, ⟨73, _⟩ => ⟨S_, .f32⟩
  | .hbm, ⟨74, _⟩ => ⟨S10000x1, .f32⟩
  | .hbm, ⟨75, _⟩ => ⟨S10000x1, .f32⟩
  | .hbm, ⟨76, _⟩ => ⟨S10000x128, .f32⟩
  | .hbm, ⟨77, _⟩ => ⟨S10000x128, .f32⟩
  | .hbm, ⟨78, _⟩ => ⟨S128x10000, .f32⟩
  | .hbm, ⟨79, _⟩ => ⟨S10000x10000, .f32⟩
  | .hbm, ⟨80, _⟩ => ⟨S10000x10000, .f32⟩
  | .hbm, ⟨81, _⟩ => ⟨S_, .f32⟩
  | .hbm, ⟨82, _⟩ => ⟨S10000x10000, .f32⟩
  | .hbm, ⟨83, _⟩ => ⟨S10000x10000, .f32⟩
  | .hbm, ⟨84, _⟩ => ⟨S10000x30, .f32⟩
  | .hbm, ⟨85, _⟩ => ⟨S10000x30, .i32⟩
  | .hbm, ⟨86, _⟩ => ⟨S10000x1, .f32⟩
  | .hbm, ⟨87, _⟩ => ⟨S10000x1, .i32⟩
  | .hbm, ⟨88, _⟩ => ⟨S1x10000, .f32⟩
  | .hbm, ⟨89, _⟩ => ⟨S1x10000, .i32⟩
  | .hbm, ⟨90, _⟩ => ⟨S10000x10000, .f32⟩
  | .hbm, ⟨91, _⟩ => ⟨S10000x10000, .f32⟩
  | .hbm, ⟨92, _⟩ => ⟨S10000x1, .f32⟩
  | .hbm, ⟨93, _⟩ => ⟨S_, .f32⟩
  | .hbm, ⟨94, _⟩ => ⟨S10000x1, .f32⟩
  | .hbm, ⟨95, _⟩ => ⟨S10000x1, .i1⟩
  | .hbm, ⟨96, _⟩ => ⟨S10000x1, .f32⟩
  | .hbm, ⟨97, _⟩ => ⟨S_, .f32⟩
  | .hbm, ⟨98, _⟩ => ⟨S10000x1, .f32⟩
  | .hbm, ⟨99, _⟩ => ⟨S10000x1, .f32⟩
  | .hbm, ⟨100, _⟩ => ⟨S_, .f32⟩
  | .hbm, ⟨101, _⟩ => ⟨S_, .f32⟩
  | .hbm, ⟨102, _⟩ => ⟨S10000x1, .f32⟩
  | .hbm, ⟨103, _⟩ => ⟨S10000x1, .f32⟩
  | .hbm, ⟨104, _⟩ => ⟨S10000x128, .f32⟩
  | .hbm, ⟨105, _⟩ => ⟨S10000x128, .f32⟩
  | .hbm, ⟨106, _⟩ => ⟨S10000x128, .f32⟩
  | .hbm, ⟨107, _⟩ => ⟨S1x128, .f32⟩
  | .hbm, ⟨108, _⟩ => ⟨S10000x128, .f32⟩
  | .hbm, ⟨109, _⟩ => ⟨S10000x16, .f32⟩
  | .hbm, ⟨110, _⟩ => ⟨S10000x16, .f32⟩
  | .hbm, ⟨111, _⟩ => ⟨S10000x16, .f32⟩
  | .hbm, ⟨112, _⟩ => ⟨S1x16, .f32⟩
  | .hbm, ⟨113, _⟩ => ⟨S10000x16, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x1, .f32⟩
  | .local _ .vmem, ⟨5, _⟩ => ⟨S80x1, .f32⟩
  | .local _ .vmem, ⟨6, _⟩ => ⟨S80x1, .i32⟩
  | .local _ .vmem, ⟨7, _⟩ => ⟨S80x1, .i32⟩
  | .local _ .vmem, ⟨8, _⟩ => ⟨S1x10000, .f32⟩
  | .local _ .vmem, ⟨9, _⟩ => ⟨S1x10000, .i32⟩
  | .local _ .vmem, ⟨10, _⟩ => ⟨S80x10000, .f32⟩
  | .local _ .vmem, ⟨11, _⟩ => ⟨S80x10000, .f32⟩
  | .local _ .vmem, ⟨12, _⟩ => ⟨S80x10000, .f32⟩
  | .local _ .vmem, ⟨13, _⟩ => ⟨S80x10000, .f32⟩
  | .local _ .vmem, ⟨14, _⟩ => ⟨S80x1, .f32⟩
  | .local _ .vmem, ⟨15, _⟩ => ⟨S80x1, .f32⟩
  | .local _ .vmem, ⟨16, _⟩ => ⟨S400x10000, .f32⟩
  | .local _ .vmem, ⟨17, _⟩ => ⟨S400x10000, .f32⟩
  | .local _ .vmem, ⟨18, _⟩ => ⟨S10000x128, .f32⟩
  | .local _ .vmem, ⟨19, _⟩ => ⟨S400x1, .f32⟩
  | .local _ .vmem, ⟨20, _⟩ => ⟨S400x1, .f32⟩
  | .local _ .vmem, ⟨21, _⟩ => ⟨S1x128, .f32⟩
  | .local _ .vmem, ⟨22, _⟩ => ⟨S400x128, .f32⟩
  | .local _ .vmem, ⟨23, _⟩ => ⟨S400x128, .f32⟩
  | .local _ .vmem, ⟨24, _⟩ => ⟨S400x10000, .f32⟩
  | .local _ .vmem, ⟨25, _⟩ => ⟨S400x10000, .f32⟩
  | .local _ .vmem, ⟨26, _⟩ => ⟨S10000x16, .f32⟩
  | .local _ .vmem, ⟨27, _⟩ => ⟨S400x1, .f32⟩
  | .local _ .vmem, ⟨28, _⟩ => ⟨S400x1, .f32⟩
  | .local _ .vmem, ⟨29, _⟩ => ⟨S1x16, .f32⟩
  | .local _ .vmem, ⟨30, _⟩ => ⟨S400x16, .f32⟩
  | .local _ .vmem, ⟨31, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_cst : Ref sig .tc := ⟨.hbm, 35, rfl⟩
abbrev main_call1_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_v0 : Ref sig .tc := ⟨.hbm, 50, rfl⟩
abbrev main_call2_cst : Ref sig .tc := ⟨.hbm, 51, rfl⟩
abbrev main_call2_v1 : Ref sig .tc := ⟨.hbm, 52, rfl⟩
abbrev main_call2_v2 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call3_v0 : Ref sig .tc := ⟨.hbm, 68, rfl⟩
abbrev main_call3_cst : Ref sig .tc := ⟨.hbm, 69, rfl⟩
abbrev main_call3_v1 : Ref sig .tc := ⟨.hbm, 70, rfl⟩
abbrev main_call3_v2 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_values : Ref sig .tc := ⟨.hbm, 84, rfl⟩
abbrev main_indices : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57_0 : Ref sig .tc := ⟨.hbm, 90, rfl⟩
abbrev main_v57_1 : Ref sig .tc := ⟨.hbm, 91, rfl⟩
abbrev main_v57_2 : Ref sig .tc := ⟨.hbm, 92, rfl⟩
abbrev main_cst_7 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_8 : Ref sig .tc := ⟨.hbm, 97, rfl⟩
abbrev main_v61 : Ref sig .tc := ⟨.hbm, 98, rfl⟩
abbrev main_v62 : Ref sig .tc := ⟨.hbm, 99, rfl⟩
abbrev main_cst_9 : Ref sig .tc := ⟨.hbm, 100, rfl⟩
abbrev main_call4_v0 : Ref sig .tc := ⟨.hbm, 101, rfl⟩
abbrev main_call4_v1 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10000 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S80x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x128 : Shape := ⟨2, ![2, 128]⟩
abbrev S128x128 : Shape := ⟨2, ![128, 128]⟩
abbrev S128x16 : Shape := ⟨2, ![128, 16]⟩
abbrev S16 : Shape := ⟨1, ![16]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x256 : Shape := ⟨2, ![10000, 256]⟩
abbrev S1x256 : Shape := ⟨2, ![1, 256]⟩
abbrev S1x128 : Shape := ⟨2, ![1, 128]⟩
abbrev S128x10000 : Shape := ⟨2, ![128, 10000]⟩
abbrev S10000x30 : Shape := ⟨2, ![10000, 30]⟩
abbrev S10000x30x1 : Shape := ⟨3, ![10000, 30, 1]⟩
abbrev S10000x30x2 : Shape := ⟨3, ![10000, 30, 2]⟩
abbrev S10000x16 : Shape := ⟨2, ![10000, 16]⟩
abbrev S1x16 : Shape := ⟨2, ![1, 16]⟩

abbrev nBuf : Space → Nat
  | .hbm => 147
  | .vmem => 0
  | .smem => 0
  | _ => 0

abbrev hbmTy0_0 (i : Nat) : BufTy := match i % 128 with
  | 0 => ⟨S10000x128, .f32⟩
  | 1 => ⟨S10000x10000, .f32⟩
  | 2 => ⟨S128x256, .f32⟩
  | 3 => ⟨S256, .f32⟩
  | 4 => ⟨S256x128, .f32⟩
  | 5 => ⟨S128, .f32⟩
  | 6 => ⟨S2x128, .f32⟩
  | 7 => ⟨S128x128, .f32⟩
  | 8 => ⟨S128, .f32⟩
  | 9 => ⟨S128x16, .f32⟩
  | 10 => ⟨S16, .f32⟩
  | 11 => ⟨S_, .f32⟩
  | 12 => ⟨S10000, .f32⟩
  | 13 => ⟨S_, .f32⟩
  | 14 => ⟨S10000, .f32⟩
  | 15 => ⟨S10000, .i1⟩
  | 16 => ⟨S10000, .f32⟩
  | 17 => ⟨S_, .f32⟩
  | 18 => ⟨S10000, .f32⟩
  | 19 => ⟨S10000, .f32⟩
  | 20 => ⟨S_, .f32⟩
  | 21 => ⟨S_, .f32⟩
  | 22 => ⟨S10000, .f32⟩
  | 23 => ⟨S10000, .f32⟩
  | 24 => ⟨S10000x1, .f32⟩
  | 25 => ⟨S10000x10000, .f32⟩
  | 26 => ⟨S10000x10000, .f32⟩
  | 27 => ⟨S1x10000, .f32⟩
  | 28 => ⟨S10000x10000, .f32⟩
  | 29 => ⟨S10000x10000, .f32⟩
  | 30 => ⟨S10000x256, .f32⟩
  | 31 => ⟨S10000x256, .f32⟩
  | 32 => ⟨S1x256, .f32⟩
  | 33 => ⟨S10000x256, .f32⟩
  | 34 => ⟨S10000x256, .f32⟩
  | 35 => ⟨S_, .f32⟩
  | 36 => ⟨S10000x256, .f32⟩
  | 37 => ⟨S10000x256, .f32⟩
  | 38 => ⟨S10000x128, .f32⟩
  | 39 => ⟨S10000x128, .f32⟩
  | 40 => ⟨S1x128, .f32⟩
  | 41 => ⟨S10000x128, .f32⟩
  | 42 => ⟨S10000x128, .f32⟩
  | 43 => ⟨S_, .f32⟩
  | 44 => ⟨S10000x10000, .f32⟩
  | 45 => ⟨S1x128, .f32⟩
  | 46 => ⟨S128, .f32⟩
  | 47 => ⟨S1x128, .f32⟩
  | 48 => ⟨S10000x128, .f32⟩
  | 49 => ⟨S10000x128, .f32⟩
  | 50 => ⟨S10000x128, .f32⟩
  | 51 => ⟨S_, .f32⟩
  | 52 => ⟨S10000, .f32⟩
  | 53 => ⟨S10000x1, .f32⟩
  | 54 => ⟨S10000x1, .f32⟩
  | 55 => ⟨S_, .f32⟩
  | 56 => ⟨S10000x1, .f32⟩
  | 57 => ⟨S10000x1, .f32⟩
  | 58 => ⟨S10000x128, .f32⟩
  | 59 => ⟨S10000x128, .f32⟩
  | 60 => ⟨S128x10000, .f32⟩
  | 61 => ⟨S10000x10000, .f32⟩
  | 62 => ⟨S10000x10000, .f32⟩
  | 63 => ⟨S1x128, .f32⟩
  | 64 => ⟨S128, .f32⟩
  | 65 => ⟨S1x128, .f32⟩
  | 66 => ⟨S10000x128, .f32⟩
  | 67 => ⟨S10000x128, .f32⟩
  | 68 => ⟨S10000x128, .f32⟩
  | 69 => ⟨S_, .f32⟩
  | 70 => ⟨S10000, .f32⟩
  | 71 => ⟨S10000x1, .f32⟩
  | 72 => ⟨S10000x1, .f32⟩
  | 73 => ⟨S_, .f32⟩
  | 74 => ⟨S10000x1, .f32⟩
  | 75 => ⟨S10000x1, .f32⟩
  | 76 => ⟨S10000x128, .f32⟩
  | 77 => ⟨S10000x128, .f32⟩
  | 78 => ⟨S128x10000, .f32⟩
  | 79 => ⟨S10000x10000, .f32⟩
  | 80 => ⟨S10000x10000, .f32⟩
  | 81 => ⟨S_, .f32⟩
  | 82 => ⟨S10000x10000, .f32⟩
  | 83 => ⟨S10000x10000, .f32⟩
  | 84 => ⟨S10000x30, .f32⟩
  | 85 => ⟨S10000x30, .i32⟩
  | 86 => ⟨S10000, .i32⟩
  | 87 => ⟨S10000x1, .i32⟩
  | 88 => ⟨S10000x30, .i32⟩
  | 89 => ⟨S_, .f32⟩
  | 90 => ⟨S10000x10000, .f32⟩
  | 91 => ⟨S_, .i32⟩
  | 92 => ⟨S10000x30, .i32⟩
  | 93 => ⟨S10000x30, .i1⟩
  | 94 => ⟨S_, .i32⟩
  | 95 => ⟨S10000x30, .i32⟩
  | 96 => ⟨S10000x30, .i32⟩
  | 97 => ⟨S10000x30, .i32⟩
  | 98 => ⟨S_, .i32⟩
  | 99 => ⟨S10000x30, .i32⟩
  | 100 => ⟨S10000x30, .i1⟩
  | 101 => ⟨S_, .i32⟩
  | 102 => ⟨S10000x30, .i32⟩
  | 103 => ⟨S10000x30, .i32⟩
  | 104 => ⟨S10000x30, .i32⟩
  | 105 => ⟨S10000x30x1, .i32⟩
  | 106 => ⟨S10000x30x1, .i32⟩
  | 107 => ⟨S10000x30x2, .i32⟩
  | 108 => ⟨S10000x10000, .f32⟩
  | 109 => ⟨S10000x10000, .f32⟩
  | 110 => ⟨S10000x10000, .f32⟩
  | 111 => ⟨S_, .f32⟩
  | 112 => ⟨S10000x10000, .f32⟩
  | 113 => ⟨S10000x10000, .f32⟩
  | 114 => ⟨S10000x10000, .f32⟩
  | 115 => ⟨S_, .f32⟩
  | 116 => ⟨S10000, .f32⟩
  | 117 => ⟨S_, .f32⟩
  | 118 => ⟨S10000, .f32⟩
  | 119 => ⟨S10000, .i1⟩
  | 120 => ⟨S10000, .f32⟩
  | 121 => ⟨S_, .f32⟩
  | 122 => ⟨S10000, .f32⟩
  | 123 => ⟨S10000, .f32⟩
  | 124 => ⟨S_, .f32⟩
  | 125 => ⟨S_, .f32⟩
  | 126 => ⟨S10000, .f32⟩
  | 127 => ⟨S10000, .f32⟩
  | _ => ⟨S10000x128, .f32⟩

abbrev hbmTy0_1 (i : Nat) : BufTy := match i % 128 with
  | 0 => ⟨S10000x1, .f32⟩
  | 1 => ⟨S10000x10000, .f32⟩
  | 2 => ⟨S10000x10000, .f32⟩
  | 3 => ⟨S1x10000, .f32⟩
  | 4 => ⟨S10000x10000, .f32⟩
  | 5 => ⟨S10000x10000, .f32⟩
  | 6 => ⟨S10000x128, .f32⟩
  | 7 => ⟨S10000x128, .f32⟩
  | 8 => ⟨S1x128, .f32⟩
  | 9 => ⟨S10000x128, .f32⟩
  | 10 => ⟨S10000x128, .f32⟩
  | 11 => ⟨S_, .f32⟩
  | 12 => ⟨S10000x128, .f32⟩
  | 13 => ⟨S10000x128, .f32⟩
  | 14 => ⟨S10000x16, .f32⟩
  | 15 => ⟨S10000x16, .f32⟩
  | 16 => ⟨S1x16, .f32⟩
  | 17 => ⟨S10000x16, .f32⟩
  | 18 => ⟨S10000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_cst : Ref sig .tc := ⟨.hbm, 35, rfl⟩
abbrev main_call1_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_v0 : Ref sig .tc := ⟨.hbm, 50, rfl⟩
abbrev main_call2_cst : Ref sig .tc := ⟨.hbm, 51, rfl⟩
abbrev main_call2_v1 : Ref sig .tc := ⟨.hbm, 52, rfl⟩
abbrev main_call2_v2 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call3_v0 : Ref sig .tc := ⟨.hbm, 68, rfl⟩
abbrev main_call3_cst : Ref sig .tc := ⟨.hbm, 69, rfl⟩
abbrev main_call3_v1 : Ref sig .tc := ⟨.hbm, 70, rfl⟩
abbrev main_call3_v2 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_values : Ref sig .tc := ⟨.hbm, 84, rfl⟩
abbrev main_indices : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_7 : Ref sig .tc := ⟨.hbm, 89, rfl⟩
abbrev main_v56 : Ref sig .tc := ⟨.hbm, 90, rfl⟩
abbrev main_c : Ref sig .tc := ⟨.hbm, 91, rfl⟩
abbrev main_v57 : Ref sig .tc := ⟨.hbm, 92, rfl⟩
abbrev main_v58 : Ref sig .tc := ⟨.hbm, 93, rfl⟩
abbrev main_c_8 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_9 : Ref sig .tc := ⟨.hbm, 98, rfl⟩
abbrev main_v62 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_11 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_12 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_14 : Ref sig .tc := ⟨.hbm, 121, rfl⟩
abbrev main_v80 : Ref sig .tc := ⟨.hbm, 122, rfl⟩
abbrev main_v81 : Ref sig .tc := ⟨.hbm, 123, rfl⟩
abbrev main_cst_15 : Ref sig .tc := ⟨.hbm, 124, rfl⟩
abbrev main_call4_v0 : Ref sig .tc := ⟨.hbm, 125, rfl⟩
abbrev main_call4_v1 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_call5_cst : Ref sig .tc := ⟨.hbm, 139, rfl⟩
abbrev main_call5_v0 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩

abbrev nD : Nat := 1
abbrev τ : Topo := Topo.v7x

variable {F : FTy → Type} [FloatOps F]
-- ==== Proof.Ranks.lean ====
/-
  The stable sort of `n` positions by a key, greatest key first, as a strictly monotone renumbering: positions are ordered
  by (greater key, then lower position), `src key k` is the position the sort puts at place `k`, and a position sits at
  place `k` exactly when `k` positions come before it. Nothing here mentions a program.
-/
module

public import Idealize.ShloMosaic.Lib.SortPrefix
public import Idealize.ShloMosaic.Lib.SortFacts

@[expose] public section

noncomputable section

namespace Knn

open Idealize.ShloMosaic

variable {n : ℕ} {κ : Type} [LinearOrder κ] (key : Fin n → κ)

/-- Position `a` has the greater key: what the sort compares by. -/
def gtKey (a b : Fin n) : Bool := decide (key b < key a)

/-- Position `a` comes before `b` in the stable sort: greater key, or the same key and a lower position. -/
def bef (a b : Fin n) : Bool := decide (key b < key a) || (decide (key a = key b) && decide (a < b))

theorem bef_iff (a b : Fin n) : bef key a b = true ↔ key b < key a ∨ (key a = key b ∧ a < b) := by
  simp [bef]

theorem bef_strict : StrictTotalBefore (bef key) :=
  StrictTotalBefore.of_key_then_position (fun x y => decide (y < x)) key (by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- On an increasing list the sort by the key alone is the sort by (key, position): an element inserted later in the list
    is never the lower position of a tie. -/
theorem stableSort_bef (l : List (Fin n)) (hl : l.Pairwise (· < ·)) : stableSort (gtKey key) l = stableSort (bef key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ _).mem_iff.mp hb)
    have : ¬ b < a := not_lt.mpr hab.le
    simp [gtKey, bef, this]

theorem sortPositions_bef : sortPositions n (gtKey key) = sortPositions n (bef key) :=
  stableSort_bef key _ (List.pairwise_lt_finRange n)

/-- The position the stable sort puts at place `k`. -/
def src : Fin n → Fin n := sortedFrom (gtKey key)

theorem src_eq : src key = sortedFrom (bef key) := by
  funext k
  unfold src sortedFrom
  rw [List.get_of_eq (sortPositions_bef key)]
  rfl

theorem src_bijective : Function.Bijective (src key) := ⟨sortedFrom_injective _, sortedFrom_surjective _⟩

/-- An earlier place holds a position that comes before. -/
theorem bef_src {a b : Fin n} (h : a < b) : bef key (src key a) (src key b) = true := by
  have hs := bef_strict key
  have hn : bef key (sortedFrom (bef key) b) (sortedFrom (bef key) a) = false :=
    sortedFrom_noInversion (bef key) (bef key) (fun a b h => hs.asymm a b h) (fun _ _ h => h) hs.negTrans a b h
  rw [src_eq]
  have hne : sortedFrom (bef key) a ≠ sortedFrom (bef key) b := fun e => absurd (sortedFrom_injective _ e) h.ne
  rcases hs.total _ _ hne with h' | h'
  · exact h'
  · rw [hn] at h'; exact absurd h' (by decide)

theorem bef_src_iff (a b : Fin n) : bef key (src key a) (src key b) = true ↔ a < b := by
  refine ⟨fun h => ?_, bef_src key⟩
  rcases lt_trichotomy a b with h' | h' | h'
  · exact h'
  · subst h'; rw [(bef_strict key).irrefl] at h; exact absurd h (by decide)
  · rw [(bef_strict key).asymm _ _ (bef_src key h')] at h; exact absurd h (by decide)

/-- A position is among the first `k + 1` places exactly when it beats the one at place `k` or is it: greater key, or the
    same key and a position not higher. -/
theorem mem_first_iff (k j : Fin n) :
    (∃ q : Fin n, q ≤ k ∧ src key q = j) ↔ (key (src key k) < key j ∨ (key j = key (src key k) ∧ j ≤ src key k)) := by
  obtain ⟨p, rfl⟩ := (src_bijective key).2 j
  constructor
  · rintro ⟨q, hq, e⟩
    obtain rfl := (src_bijective key).1 e
    rcases lt_or_eq_of_le hq with h | h
    · rcases (bef_iff key _ _).mp (bef_src key h) with h' | ⟨h1, h2⟩
      · exact Or.inl h'
      · exact Or.inr ⟨h1, h2.le⟩
    · subst h; exact Or.inr ⟨rfl, le_refl _⟩
  · intro h
    refine ⟨p, ?_, rfl⟩
    rcases h with h | ⟨h1, h2⟩
    · exact ((bef_src_iff key p k).mp ((bef_iff key _ _).mpr (Or.inl h))).le
    · rcases lt_or_eq_of_le h2 with h2 | h2
      · exact ((bef_src_iff key p k).mp ((bef_iff key _ _).mpr (Or.inr ⟨h1, h2⟩))).le
      · exact ((src_bijective key).1 h2).le

/-- Exactly `k` positions come before the one at place `k`. -/
theorem card_bef_src (k : Fin n) : (Finset.univ.filter fun j => bef key j (src key k) = true).card = k.val := by
  have e : (Finset.univ.filter fun j => bef key j (src key k) = true) = (Finset.univ.filter fun a : Fin n => a < k).map ⟨src key, (src_bijective key).1⟩ := by
    ext j
    obtain ⟨p, rfl⟩ := (src_bijective key).2 j
    simp only [Finset.mem_filter, Finset.mem_univ, true_and, Finset.mem_map, Function.Embedding.coeFn_mk]
    rw [bef_src_iff]
    exact ⟨fun h => ⟨p, h, rfl⟩, fun ⟨q, hq, e⟩ => by rwa [← (src_bijective key).1 e]⟩
  rw [e, Finset.card_map]
  have : (Finset.univ.filter fun a : Fin n => a < k) = Finset.Iio k := by ext; simp
  rw [this, Fin.card_Iio]

/-- A position with exactly `k` positions before it is the one at place `k`. -/
theorem src_eq_of_card (k j : Fin n) (h : (Finset.univ.filter fun i => bef key i j = true).card = k.val) : src key k = j := by
  obtain ⟨p, rfl⟩ := (src_bijective key).2 j
  rw [card_bef_src] at h
  exact congrArg _ (Fin.ext h.symm)

end Knn

end
-- ==== Proof.TopRow.lean ====
/-
  A row of `Host.topK` along axis 1: entry `(r, q)` of the values is the row's entry at the position the stable sort by key
  puts at place `q`, and entry `(r, q)` of the indices is that position's word.
-/
module

public import proofs.«01_k».proof.Proof.Ranks
public import Idealize.ShloMosaic.Lib.Pointwise
public import Idealize.ShloMosaic.Lib.SortKey
public import Idealize.ShloMosaic.PureOps.Ideal.Laws

@[expose] public section

noncomputable section

namespace Knn

open Idealize.ShloMosaic

/-- A row of keys. -/
def rowKey {R C : ℕ} {α κ : Type} (key : α → κ) (x : (⟨2, ![R, C]⟩ : Shape).Idx → α) (r : Fin R) (j : Fin C) : κ := key (x (ix2 r j))

theorem along_ix2 {R C : ℕ} (r : Fin R) (j k : Fin C) :
    Shape.Idx.along (s := ⟨2, ![R, C]⟩) (ix2 r j) ⟨1, Nat.one_lt_two⟩ k = ix2 r k := by
  rw [eq_ix2 (Shape.Idx.along (s := ⟨2, ![R, C]⟩) (ix2 r j) ⟨1, Nat.one_lt_two⟩ k)]
  rfl

variable {R C K : ℕ} {α κ : Type} [LinearOrder κ]

theorem slice_ix2 (hK : K ≤ C) (x : (⟨2, ![R, C]⟩ : Shape).Idx → α) (h : (⟨2, ![R, C]⟩ : Shape).Slices (fun _ => 0) ⟨2, ![R, K]⟩)
    (r : Fin R) (q : Fin K) : extractStridedSlice ⟨2, ![R, K]⟩ (fun _ => 0) x h (ix2 r q) = x (ix2 r (Fin.castLE hK q)) := by
  unfold extractStridedSlice
  congr 1
  funext i
  match i with
  | ⟨0, _⟩ => exact Fin.ext (by simp [ix2])
  | ⟨1, _⟩ => exact Fin.ext (by simp [ix2])

theorem sort2_row {β : Type} (key : α → κ) (gt : α → α → BitVec 1) (hgt : ∀ a b, (gt a b == 1#1) = decide (key b < key a))
    (x : (⟨2, ![R, C]⟩ : Shape).Idx → α) (y : (⟨2, ![R, C]⟩ : Shape).Idx → β) (r : Fin R) (q : Fin C) :
    (Host.sort2 ⟨2, ![R, C]⟩ 1 (fun l r => gt l.1 r.1) x y).1 (ix2 r q) = x (ix2 r (src (rowKey key x r) q)) ∧
    (Host.sort2 ⟨2, ![R, C]⟩ 1 (fun l r => gt l.1 r.1) x y).2 (ix2 r q) = y (ix2 r (src (rowKey key x r) q)) := by
  have hb : (fun k k' : Fin C => gt (x (Shape.Idx.along (s := ⟨2, ![R, C]⟩) (ix2 r q) ⟨1, Nat.one_lt_two⟩ k))
      (x (Shape.Idx.along (s := ⟨2, ![R, C]⟩) (ix2 r q) ⟨1, Nat.one_lt_two⟩ k')) == 1#1) = gtKey (rowKey key x r) := by
    funext k k'
    rw [hgt, along_ix2, along_ix2]; rfl
  have hs : sortedFrom (fun k k' : Fin C => gt (x (Shape.Idx.along (s := ⟨2, ![R, C]⟩) (ix2 r q) ⟨1, Nat.one_lt_two⟩ k))
      (x (Shape.Idx.along (s := ⟨2, ![R, C]⟩) (ix2 r q) ⟨1, Nat.one_lt_two⟩ k')) == 1#1) q = src (rowKey key x r) q := by rw [hb]; rfl
  have hx : ∀ p : Fin C, p = src (rowKey key x r) q →
      Shape.Idx.along (s := ⟨2, ![R, C]⟩) (ix2 r q) ⟨1, Nat.one_lt_two⟩ p = ix2 r (src (rowKey key x r) q) := fun p e => by rw [e, along_ix2]
  have h0 := hx _ hs
  unfold Host.sort2
  rw [dif_pos (show 1 < (⟨2, ![R, C]⟩ : Shape).rank from Nat.one_lt_two)]
  constructor
  · rw [← h0]; rfl
  · rw [← h0]; rfl

/-- The positions along axis 1, as words. -/
def rowIota : IVec (⟨2, ![R, C]⟩ : Shape) 32 := fun i =>
  if hd : 1 < (⟨2, ![R, C]⟩ : Shape).rank then iotaInDim (⟨2, ![R, C]⟩ : Shape) 32 ⟨1, hd⟩ i else 0#32

theorem topK_row (hK : K ≤ C) (key : α → κ) (gt : α → α → BitVec 1) (hgt : ∀ a b, (gt a b == 1#1) = decide (key b < key a))
    (x : (⟨2, ![R, C]⟩ : Shape).Idx → α) (h : (⟨2, ![R, C]⟩ : Shape).Slices (fun _ => 0) ⟨2, ![R, K]⟩) (r : Fin R) (q : Fin K) :
    (Host.topK ⟨2, ![R, K]⟩ 1 gt x h).1 (ix2 r q) = x (ix2 r (src (rowKey key x r) (Fin.castLE hK q))) ∧
    (Host.topK ⟨2, ![R, K]⟩ 1 gt x h).2 (ix2 r q) = BitVec.ofNat 32 (src (rowKey key x r) (Fin.castLE hK q)).val := by
  have hs := sort2_row key gt hgt x (rowIota (R := R) (C := C)) r (Fin.castLE hK q)
  refine ⟨?_, ?_⟩
  · exact (slice_ix2 hK (Host.sort2 ⟨2, ![R, C]⟩ 1 (fun l r => gt l.1 r.1) x (rowIota (R := R) (C := C))).1 h r q).trans hs.1
  · refine (slice_ix2 hK (Host.sort2 ⟨2, ![R, C]⟩ 1 (fun l r => gt l.1 r.1) x (rowIota (R := R) (C := C))).2 h r q).trans (hs.2.trans ?_)
    unfold rowIota
    rw [dif_pos (show 1 < (⟨2, ![R, C]⟩ : Shape).rank from Nat.one_lt_two)]
    rfl

/-- At the extended reals the host's greatest-first comparison is the order itself. -/
theorem gt_ideal (a b : Ideal .f32) : ((FloatOps.cmpfTotal .gt a b : BitVec 1) == 1#1) = decide ((b : EReal) < (a : EReal)) := by
  show ((BitVec.ofBool (decide ((b : EReal) < (a : EReal)))) == 1#1) = _
  by_cases h : (b : EReal) < (a : EReal) <;> simp [h]

/-- At bits it is the signed order of the sort keys. -/
theorem gt_bits (a b : Bits .f32) : ((FloatOps.cmpfTotal .gt a b : BitVec 1) == 1#1) = decide ((sortableKey b).toInt < (sortableKey a).toInt) := by
  rw [cmpfTotal_f32_eq_cmpi_sortableKey]
  show ((BitVec.ofBool ((sortableKey b).slt (sortableKey a))) == 1#1) = _
  by_cases h : (sortableKey b).toInt < (sortableKey a).toInt <;> simp [BitVec.slt, h]

end Knn

end
-- ==== Proof.RefRead.lean ====
/-
  The reference, read entry by entry: the similarity matrix is symmetric, its scattered matrix keeps an entry exactly at a
  row's thirty greatest places, and the normalised matrix is the summed one times the two scalings.
-/
module

public import proofs.«01_k».proof.Proof.Gen.ReferenceIdeal.Run
public import proofs.«01_k».proof.Proof.TopRow
public import Idealize.ShloMosaic.Lib.ScatterToDense.RefScatter
public import Idealize.ShloMosaic.Lib.ScatterToDense.Reading
public import Idealize.ShloMosaic.Lib.Routing.OpsPair
public import Idealize.ShloMosaic.Lib.Pointwise.IndexBridge

@[expose] public section

set_option maxRecDepth 16384

noncomputable section

namespace Cert.ReferenceIdeal.Knn

open Cert.ReferenceIdeal Cert.ReferenceIdeal.Gen Cert.ReferenceIdeal.Value Idealize.ShloMosaic Idealize.ShloMosaic.TcCoe Idealize.ShloMosaic.StableHlo
open _root_.Knn
open Routing (wrap_of_lt)

variable (R : Valuation τ sig (Elt Ideal))

/-- The similarity matrix. -/
def simil : FVec Ideal S10000x10000 .f32 := res_main_v52 R

/-- The symmetrised matrix plus the given one. -/
def final : FVec Ideal S10000x10000 .f32 := res_main_v75 R

/-- The given adjacency. -/
def given : FVec Ideal S10000x10000 .f32 := R (Proc.devRef .tc main_arg1)

/-- The matrix with the similarity at each row's thirty greatest places and 0 elsewhere. -/
def scattered : FVec Ideal S10000x10000 .f32 := res_main_v70 R

/-- One over the root of the row sum of `final`, or 0. -/
def scaling : FVec Ideal S10000 .f32 := res_main_v82 R

/-- The similarity's row `i` as keys. -/
def simKey (i : Fin 10000) : Fin 10000 → EReal := rowKey (fun a : EReal => a) (simil R) i

/-- Column `j` is among the thirty greatest of row `i`. -/
def Nbr (i j : Fin 10000) : Prop := ∃ q ≤ (29 : Fin 10000), src (simKey R i) q = j

theorem simil_symm (i j : Fin 10000) : simil R (ix2 i j) = simil R (ix2 j i) := by
  unfold simil
  pointwise [res_main_v52]
  refine congrArg (fun x : EReal => Ideal.div x (Ideal.ofBits FTy.f32 1073741824#32)) ?_
  refine congrArg₂ (fun a b : EReal => a + b) ?_ ?_
  · exact congrArg (fun f : Fin 128 → EReal => ∑ x, f x) (funext fun x => mul_comm _ _)
  · exact congrArg (fun f : Fin 128 → EReal => ∑ x, f x) (funext fun x => mul_comm _ _)

theorem topVal (i : Fin 10000) (k : Fin 30) :
    ((Host.topK S10000x30 1 (FloatOps.cmpfTotal .gt) (res_main_v52 R) sliceFits_S10000x10000_S10000x30).1 : FVec Ideal S10000x30 .f32) (ix2 i k)
      = simil R (ix2 i (src (simKey R i) (Fin.castLE (by decide) k))) :=
  (topK_row (by decide) (fun a : EReal => a) _ gt_ideal (simil R) sliceFits_S10000x10000_S10000x30 i k).1

theorem topIdx (i : Fin 10000) (k : Fin 30) :
    (Host.topK S10000x30 1 (FloatOps.cmpfTotal .gt) (res_main_v52 R) sliceFits_S10000x10000_S10000x30).2 (ix2 i k)
      = BitVec.ofNat 32 (src (simKey R i) (Fin.castLE (by decide) k)).val :=
  (topK_row (by decide) (fun a : EReal => a) _ gt_ideal (simil R) sliceFits_S10000x10000_S10000x30 i k).2

theorem toNat_ofNat_fin (p : Fin 10000) : (BitVec.ofNat 32 p.val).toNat = p.val := by
  rw [BitVec.toNat_ofNat]
  exact Nat.mod_eq_of_lt (by have := p.isLt; omega)

theorem scattered_dense : scattered R = ScatterToDense.dense (T := 10000) (C := 10000) (K := 30) (by decide)
    (Host.topK S10000x30 1 (FloatOps.cmpfTotal .gt) (res_main_v52 R) sliceFits_S10000x10000_S10000x30).2
    (Host.topK S10000x30 1 (FloatOps.cmpfTotal .gt) (res_main_v52 R) sliceFits_S10000x10000_S10000x30).1 (0 : EReal) := by
  funext y
  show res_main_v70 R y = _
  unfold res_main_v70
  refine (ScatterToDense.scatter_eq_dense (T := 10000) (C := 10000) (K := 30) (by decide) scatter_S10000x10000_S10000x30x2_S10000x30_n_01_01_2 rfl rfl rfl (by decide) (by decide) _ _ _ (Host.topK S10000x30 1 (FloatOps.cmpfTotal .gt) (res_main_v52 R) sliceFits_S10000x10000_S10000x30).2 ((Host.topK S10000x30 1 (FloatOps.cmpfTotal .gt) (res_main_v52 R) sliceFits_S10000x10000_S10000x30).1) 0
    (fun _ => ?_) (fun i k => ?_) (fun i k c hc => ?_) (fun _ _ => rfl) _)
  · pointwise
  · pointwise [res_main_v55]
    exact wrap_of_lt _ _ (by
      rw [BitVec.toNat_ofNat]
      exact Nat.lt_of_le_of_lt (Nat.mod_le _ _) (by have := i.isLt; show i.val < 2 ^ 31; omega))
  · pointwise
    rw [ix2_eq_valueIdx, wrap_of_lt _ _ (by
      rw [← ix2_eq_valueIdx]
      refine lt_of_eq_of_lt (congrArg BitVec.toNat (topIdx R i k)) ?_
      rw [toNat_ofNat_fin]
      exact lt_trans (Fin.isLt _) (by decide))]
    exact Iff.rfl

open Classical in
theorem scattered_apply (i j : Fin 10000) :
    scattered R (ix2 i j) = if Nbr R i j then simil R (ix2 i j) else (0 : EReal) := by
  rw [scattered_dense]
  have key := ScatterToDense.dense_lastWinsU (T := 10000) (C := 10000) (K := 30) (by decide)
    (Host.topK S10000x30 1 (FloatOps.cmpfTotal .gt) (res_main_v52 R) sliceFits_S10000x10000_S10000x30).2
    (Host.topK S10000x30 1 (FloatOps.cmpfTotal .gt) (res_main_v52 R) sliceFits_S10000x10000_S10000x30).1 (0 : EReal) i j
  have pos : ∀ t : Fin 30, (j.val = ((Host.topK S10000x30 1 (FloatOps.cmpfTotal .gt) (res_main_v52 R) sliceFits_S10000x10000_S10000x30).2 (ValueIdx.ix2 i t)).toNat) ↔ src (simKey R i) (Fin.castLE (by decide) t) = j := by
    intro t
    rw [← ix2_eq_valueIdx, topIdx, toNat_ofNat_fin]
    exact ⟨fun h => Fin.ext h.symm, fun h => congrArg Fin.val h.symm⟩
  rw [← ix2_eq_valueIdx] at key
  rcases key with ⟨t, ht, -, hv⟩ | ⟨hn, hv⟩
  · have hs := (pos t).1 ht
    rw [if_pos ⟨Fin.castLE (by decide) t, by
      rw [Fin.le_def]; have := t.isLt; show t.val ≤ 29; omega, hs⟩]
    refine hv.trans ?_
    rw [← ix2_eq_valueIdx, topVal, hs]
  · rw [if_neg (by
      rintro ⟨q, hq, he⟩
      have hq' : q.val ≤ 29 := hq
      exact hn ⟨q.val, by omega⟩ ((pos _).2 he))]
    exact hv

theorem final_apply (i j : Fin 10000) : final R (ix2 i j)
    = Ideal.ofBits .f32 0x3F000000#32 * (scattered R (ix2 i j) + scattered R (ix2 j i)) + given R (ix2 i j) := by
  unfold final scattered given
  pointwise [res_main_v75]

theorem scaling_apply (i : Fin 10000) : scaling R (ix1 i)
    = if 0 < ∑ x, final R (ix2 i x) then Ideal.div 1 (Ideal.sqrt (∑ x, final R (ix2 i x))) else (0 : EReal) := by
  have hd : (res_main_v76 R : FVec Ideal S10000 .f32) (ix1 i) = ∑ x, final R (ix2 i x) := by
    unfold final
    pointwise [res_main_v76]
  unfold scaling
  pointwise [res_main_v82]
  rw [hd]
  refine congrArg (fun z : EReal => if 0 < ∑ x, final R (ix2 i x) then Ideal.div 1 (Ideal.sqrt (∑ x, final R (ix2 i x))) else z) ?_
  show Ideal.ofBits .f32 0x00000000#32 = 0
  pointwise

theorem v88_apply (i j : Fin 10000) : (res_main_v88 R : FVec Ideal S10000x10000 .f32) (ix2 i j)
    = final R (ix2 i j) * scaling R (ix1 i) * scaling R (ix1 j) := by
  unfold final scaling
  pointwise [res_main_v88]

end Cert.ReferenceIdeal.Knn
end
-- ==== Proof.Blocks.lean ====
/-
  The three pipelined calls at the reals: each output array, after all grid points, as a function of the arrays the call
  finds, entry by entry. Each output is written back block of rows by block of rows, and the blocks cover it.
-/
module

public import proofs.«01_k».proof.Proof.Gen.KernelIdeal.Frame
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Knn

open Cert.KernelIdeal Cert.KernelIdeal.Gen Idealize.ShloMosaic Idealize.ShloMosaic.TcCoe Idealize.SL.Sem
open Idealize.ShloMosaic.Pipeline (Dat)

/-- 1 where the entry `s` is above the threshold `v`, or equal to it at a position not beyond `cut`; 0 elsewhere. -/
def hit (s v : EReal) (pos cut : BitVec 32) : EReal :=
  FloatOps.sitofp (F := Ideal) FTy.f32 (BitVec.setWidth 32
    (IntOp.ori (BitVec.ofBool (decide (v < s))) (IntOp.andi (BitVec.ofBool (decide (s = v))) (IntOp.cmpi CmpIPredicate.sle pos cut))))

/-- One entry of the symmetrised neighbour matrix: half the similarity times the number of the two directions it is kept in. -/
def symCell (s v v' : EReal) (col cut row cut' : BitVec 32) : EReal :=
  Ideal.ofBits FTy.f32 0x3F000000#32 * s * (hit s v col cut + hit s v' row cut')

/-- The symmetrised matrix of a similarity matrix and the thresholds and cuts by row and by column. -/
def symArr (S : FVec Ideal S10000x10000 .f32) (v : FVec Ideal S10000x1 .f32) (cut : IVec S10000x1 32)
    (v' : FVec Ideal S1x10000 .f32) (cut' : IVec S1x10000 32) (a b : Fin 10000) : EReal :=
  symCell (S (ix2 a b)) (v (ix2 a 0)) (v' (ix2 0 b)) (BitVec.ofNat 32 b.val) (cut (ix2 a 0)) (BitVec.ofNat 32 a.val) (cut' (ix2 0 b))

/-- The same with the adjacency added, summed along a row. -/
def degArr (S : FVec Ideal S10000x10000 .f32) (v : FVec Ideal S10000x1 .f32) (cut : IVec S10000x1 32)
    (v' : FVec Ideal S1x10000 .f32) (cut' : IVec S1x10000 32) (A : FVec Ideal S10000x10000 .f32) (a : Fin 10000) : EReal :=
  ∑ x : Fin 10000, (symArr S v cut v' cut' a x + A (ix2 a x))

/-- A matrix product, scaled by row, with a bias by column. -/
def mmArr {n : ℕ} (A : FVec Ideal S10000x10000 .f32) (X : FVec Ideal (⟨2, ![10000, n]⟩ : Shape) .f32) (d : FVec Ideal S10000x1 .f32)
    (β : FVec Ideal (⟨2, ![1, n]⟩ : Shape) .f32) (a : Fin 10000) (b : Fin n) : EReal :=
  (∑ x : Fin 10000, A (ix2 a x) * X (ix2 x b)) * d (ix2 a 0) + β (ix2 0 b)

theorem pay_sym (i : grid0.Coords) (v0 : FVec Ideal S80x10000 .f32) (v7 : FVec Ideal S80x1 .f32) (v9 : IVec S80x1 32) (v11 : FVec Ideal S1x10000 .f32)
    (v13 : IVec S1x10000 32) (a : Fin 80) (b : Fin 10000) :
    k0_pay2 (F := Ideal) i v0 v7 v9 v11 v13 (ix2 a b)
      = symCell (v0 (ix2 a b)) (v7 (ix2 a 0)) (v11 (ix2 0 b)) (BitVec.ofNat 32 b.val) (v9 (ix2 a 0))
          (IntOp.addi (BitVec.ofNat 32 a.val) (Scalar.muli (BitVec.ofNat 32 (i 0).val) 80#32)) (v13 (ix2 0 b)) := by
  pointwise [k0_pay2]
  rfl

theorem pay_fin (i : grid0.Coords) (v0 : FVec Ideal S80x10000 .f32) (v7 : FVec Ideal S80x1 .f32) (v9 : IVec S80x1 32) (v11 : FVec Ideal S1x10000 .f32)
    (v13 : IVec S1x10000 32) (v39 : FVec Ideal S80x10000 .f32) (a : Fin 80) (b : Fin 10000) :
    k0_pay3 (F := Ideal) i v0 v7 v9 v11 v13 v39 (ix2 a b)
      = symCell (v0 (ix2 a b)) (v7 (ix2 a 0)) (v11 (ix2 0 b)) (BitVec.ofNat 32 b.val) (v9 (ix2 a 0))
          (IntOp.addi (BitVec.ofNat 32 a.val) (Scalar.muli (BitVec.ofNat 32 (i 0).val) 80#32)) (v13 (ix2 0 b)) + v39 (ix2 a b) := by
  rw [← pay_sym]
  unfold k0_pay3
  rfl

theorem pay_sum (v : FVec Ideal S80x10000 .f32) (a : Fin 80) (b : Fin 1) : k0_pay1 (F := Ideal) v (ix2 a b) = ∑ x, v (ix2 a x) := by
  pointwise [k0_pay1]

theorem pay_mm1 (v0 : FVec Ideal S400x10000 .f32) (v2 : FVec Ideal S10000x128 .f32) (v5 : FVec Ideal S400x1 .f32) (v9 : FVec Ideal S1x128 .f32) (a : Fin 400)
    (b : Fin 128) : k1_pay1 (F := Ideal) v0 v2 v5 v9 (ix2 a b) = max ((∑ x, v0 (ix2 a x) * v2 (ix2 x b)) * v5 (ix2 a 0) + v9 (ix2 0 b)) 0 := by
  pointwise [k1_pay1]

theorem pay_mm2 (v0 : FVec Ideal S400x10000 .f32) (v2 : FVec Ideal S10000x16 .f32) (v5 : FVec Ideal S400x1 .f32) (v9 : FVec Ideal S1x16 .f32) (a : Fin 400)
    (b : Fin 16) : k2_pay1 (F := Ideal) v0 v2 v5 v9 (ix2 a b) = (∑ x, v0 (ix2 a x) * v2 (ix2 x b)) * v5 (ix2 a 0) + v9 (ix2 0 b) := by
  pointwise [k2_pay1]

/-- The row of a block's entry, computed from the grid coordinate in words, is the row's word. -/
theorem row_word (t a : ℕ) : IntOp.addi (BitVec.ofNat 32 a) (Scalar.muli (BitVec.ofNat 32 t) 80#32) = BitVec.ofNat 32 (t * 80 + a) := by
  show BitVec.ofNat 32 a + BitVec.ofNat 32 t * BitVec.ofNat 32 80 = _
  apply BitVec.eq_of_toNat_eq
  simp [Nat.add_comm]

theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ (grid0.coords t 0).val = t.val :=
  (by decide +kernel : ∀ t : Fin grid0.N, _)

theorem idx1 : ∀ t : Fin cfg1.N, win1_0.index t = ![t.val, 0] ∧ win1_1.index t = ![0, 0] ∧ win1_2.index t = ![t.val, 0]
    ∧ win1_3.index t = ![0, 0] ∧ win1_4.index t = ![t.val, 0] := (by decide +kernel : ∀ t : Fin grid1.N, _)

theorem idx2 : ∀ t : Fin cfg2.N, win2_0.index t = ![t.val, 0] ∧ win2_1.index t = ![0, 0] ∧ win2_2.index t = ![t.val, 0]
    ∧ win2_3.index t = ![0, 0] ∧ win2_4.index t = ![t.val, 0] := (by decide +kernel : ∀ t : Fin grid2.N, _)

variable (V : (c : Dev nD) → (b : Ref sig .tc) → Buf (Elt Ideal) ((c : Thread nD τ).loc b)) (c : Dev nD)

/-- The first call's symmetrised matrix. -/
theorem arr_sym : (dat0 V c).arrAt 6 cfg0.N
    = fun y => symArr (V c main_v52) (V c main_v53) (V c main_v54) (V c main_v55) (V c main_v56) (y 0) (y 1) := by
  refine (dat0 V c).arrAt_eq_of_covers 6 _ (by decide +kernel) fun t _ y => ?_
  blk_simp
  rw [after0_6]
  frame_out
  obtain ⟨a, b, rfl⟩ : ∃ (a : Fin 80) (b : Fin 10000), y = ix2 a b := ⟨y 0, y 1, eq_ix2 y⟩
  rw [pay_sym, (idx0 t).2.2.2.2.2.2.2.2.2, row_word]
  unfold symArr
  blk_point [iblk0, idx0 t]

/-- The first call's symmetrised matrix with the adjacency added. -/
theorem arr_fin : (dat0 V c).arrAt 7 cfg0.N
    = fun y => symArr (V c main_v52) (V c main_v53) (V c main_v54) (V c main_v55) (V c main_v56) (y 0) (y 1) + V c main_arg1 y := by
  refine (dat0 V c).arrAt_eq_of_covers 7 _ (by decide +kernel) fun t _ y => ?_
  blk_simp
  rw [after0_7]
  unfold out0_7 k0_pay4
  frame_out
  obtain ⟨a, b, rfl⟩ : ∃ (a : Fin 80) (b : Fin 10000), y = ix2 a b := ⟨y 0, y 1, eq_ix2 y⟩
  rw [pay_fin, (idx0 t).2.2.2.2.2.2.2.2.2, row_word]
  unfold symArr
  blk_point [iblk0, idx0 t]

/-- The first call's row sums of it. -/
theorem arr_deg : (dat0 V c).arrAt 8 cfg0.N
    = fun y => degArr (V c main_v52) (V c main_v53) (V c main_v54) (V c main_v55) (V c main_v56) (V c main_arg1) (y 0) := by
  refine (dat0 V c).arrAt_eq_of_covers 8 _ (by decide +kernel) fun t _ y => ?_
  blk_simp
  rw [after0_8]
  unfold out0_8 k0_pay4
  frame_out
  obtain ⟨a, b, rfl⟩ : ∃ (a : Fin 80) (b : Fin 1), y = ix2 a b := ⟨y 0, y 1, eq_ix2 y⟩
  rw [pay_sum]
  refine congrArg (fun f : Fin 10000 → EReal => ∑ x, f x) (funext fun x => ?_)
  rw [pay_fin, (idx0 t).2.2.2.2.2.2.2.2.2, row_word]
  unfold symArr
  blk_point [iblk0, idx0 t]

/-- The second call: the matrix product, scaled by row, with the bias, cut off below at 0. -/
theorem arr_mm1 : (dat1 V c).arrAt 4 cfg1.N
    = fun y => max (mmArr (n := 128) (V c main_v57_1) (V c main_v66) (V c main_v63) (V c main_v67) (y 0) (y 1)) (0 : EReal) := by
  refine (dat1 V c).arrAt_eq_of_covers 4 _ (by decide +kernel) fun t _ y => ?_
  blk_simp
  rw [after1_4]
  frame_out
  obtain ⟨a, b, rfl⟩ : ∃ (a : Fin 400) (b : Fin 128), y = ix2 a b := ⟨y 0, y 1, eq_ix2 y⟩
  rw [pay_mm1]
  unfold mmArr
  blk_point [iblk1, idx1 t]

/-- The third call: the same without the cut-off. -/
theorem arr_mm2 : (dat2 V c).arrAt 4 cfg2.N
    = fun y => mmArr (n := 16) (V c main_v57_1) (V c main_v71) (V c main_v63) (V c main_v72) (y 0) (y 1) := by
  refine (dat2 V c).arrAt_eq_of_covers 4 _ (by decide +kernel) fun t _ y => ?_
  blk_simp
  rw [after2_4]
  frame_out
  obtain ⟨a, b, rfl⟩ : ∃ (a : Fin 400) (b : Fin 16), y = ix2 a b := ⟨y 0, y 1, eq_ix2 y⟩
  rw [pay_mm2]
  unfold mmArr
  blk_point [iblk2, idx2 t]

end Cert.KernelIdeal.Knn
end
-- ==== Proof.Alg.lean ====
/-
  The value mathematics: the kernel's symmetrised matrix, its degree scaling and its two scaled matrix products are the
  reference's, over the extended reals and with no condition on the arguments.
-/
module

public import proofs.«01_k».proof.Proof.RefRead
public import proofs.«01_k».proof.Proof.Blocks

@[expose] public section

set_option maxRecDepth 16384

noncomputable section

namespace Cert.ReferenceIdeal.Knn

open Cert.ReferenceIdeal Cert.ReferenceIdeal.Gen Cert.ReferenceIdeal.Value Idealize.ShloMosaic Idealize.ShloMosaic.TcCoe Idealize.ShloMosaic.StableHlo
open _root_.Knn
open Cert.KernelIdeal.Knn (hit symCell symArr degArr mmArr)

variable (R : Valuation τ sig (Elt Ideal))

/-! ## The two directions of an edge -/

theorem slt_ofNat (p q : Fin 10000) : IntOp.cmpi CmpIPredicate.sle (BitVec.ofNat 32 p.val) (BitVec.ofNat 32 q.val) = BitVec.ofBool (decide (p ≤ q)) := by
  show BitVec.ofBool (BitVec.sle _ _) = _
  congr 1
  have hp := p.isLt
  have hq := q.isLt
  have e : ∀ x : ℕ, x < 10000 → (BitVec.ofNat 32 x).toInt = x := by
    intro x hx
    rw [BitVec.toInt_eq_toNat_of_lt (by rw [BitVec.toNat_ofNat]; omega), BitVec.toNat_ofNat]
    omega
  show decide ((BitVec.ofNat 32 p.val).toInt ≤ (BitVec.ofNat 32 q.val).toInt) = _
  rw [e _ hp, e _ hq]
  exact decide_eq_decide.2 (by rw [Nat.cast_le, Fin.le_def])

open Classical in
theorem hit_ofNat (s v : EReal) (p q : Fin 10000) :
    hit s v (BitVec.ofNat 32 p.val) (BitVec.ofNat 32 q.val) = if v < s ∨ (s = v ∧ p ≤ q) then (1 : EReal) else 0 := by
  unfold hit
  rw [slt_ofNat]
  have one : FloatOps.sitofp (F := Ideal) FTy.f32 (BitVec.setWidth 32 1#1) = (1 : EReal) := by
    show ((((BitVec.setWidth 32 1#1).toInt : ℝ)) : EReal) = 1
    rw [show (BitVec.setWidth 32 1#1).toInt = 1 by decide]
    norm_num
  have zero : FloatOps.sitofp (F := Ideal) FTy.f32 (BitVec.setWidth 32 0#1) = (0 : EReal) := by
    show ((((BitVec.setWidth 32 0#1).toInt : ℝ)) : EReal) = 0
    rw [show (BitVec.setWidth 32 0#1).toInt = 0 by decide]
    norm_num
  by_cases h1 : v < s <;> by_cases h2 : s = v <;> by_cases h3 : p ≤ q <;>
    simp only [h1, h2, h3, decide_true, decide_false, true_or, false_or, and_true, and_false, false_and, true_and, if_true, if_false, lt_self_iff_false] <;>
    first
      | exact one
      | exact zero
      | (subst h2; exact absurd h1 (lt_irrefl _))

open Classical in
theorem hit_nbr (i j : Fin 10000) :
    hit (simil R (ix2 i j)) (simil R (ix2 i (src (simKey R i) 29))) (BitVec.ofNat 32 j.val) (BitVec.ofNat 32 (src (simKey R i) 29).val)
      = if Nbr R i j then (1 : EReal) else 0 := by
  rw [hit_ofNat]
  refine if_congr ?_ rfl rfl
  unfold Nbr
  rw [mem_first_iff]
  rfl

/-! ## Thresholds and cuts -/

/-- The thirtieth greatest of each row. -/
def thr : FVec Ideal S10000x1 .f32 :=
  extractStridedSlice S10000x1 ![0, 29] ((Host.topK S10000x30 1 (FloatOps.cmpfTotal .gt) (res_main_v52 R) sliceFits_S10000x10000_S10000x30).1)
    Cert.KernelIdeal.Gen.slices_S10000x30_S10000x1_0_29

/-- Its column. -/
def cut : IVec S10000x1 32 :=
  extractStridedSlice S10000x1 ![0, 29] ((Host.topK S10000x30 1 (FloatOps.cmpfTotal .gt) (res_main_v52 R) sliceFits_S10000x10000_S10000x30).2)
    Cert.KernelIdeal.Gen.slices_S10000x30_S10000x1_0_29

/-- The thresholds as a row. -/
def thrRow : FVec Ideal Cert.KernelIdeal.S1x10000 .f32 :=
  transpose Cert.KernelIdeal.S1x10000 [1, 0] (thr R) Cert.KernelIdeal.Gen.transposes_S10000x1_S1x10000_1_0

/-- The cuts as a row. -/
def cutRow : IVec Cert.KernelIdeal.S1x10000 32 :=
  transpose Cert.KernelIdeal.S1x10000 [1, 0] (cut R) Cert.KernelIdeal.Gen.transposes_S10000x1_S1x10000_1_0

theorem thr_apply (i : Fin 10000) : thr R (ix2 i 0) = simil R (ix2 i (src (simKey R i) 29)) := by
  refine Eq.trans ?_ (topVal R i 29)
  unfold thr
  pointwise

theorem cut_apply (i : Fin 10000) : cut R (ix2 i 0) = BitVec.ofNat 32 (src (simKey R i) 29).val := by
  refine Eq.trans ?_ (topIdx R i 29)
  unfold cut
  pointwise

theorem thrRow_apply (i : Fin 10000) : thrRow R (ix2 0 i) = simil R (ix2 i (src (simKey R i) 29)) := by
  refine Eq.trans ?_ (thr_apply R i)
  unfold thrRow
  pointwise

theorem cutRow_apply (i : Fin 10000) : cutRow R (ix2 0 i) = BitVec.ofNat 32 (src (simKey R i) 29).val := by
  refine Eq.trans ?_ (cut_apply R i)
  unfold cutRow
  pointwise

/-- Half of a sum: one factor times how often it is kept, or the kept ones added. -/
theorem half_split (s : EReal) (p q : Prop) [Decidable p] [Decidable q] :
    Ideal.ofBits FTy.f32 0x3F000000#32 * s * ((if p then (1 : EReal) else 0) + (if q then 1 else 0))
      = Ideal.ofBits FTy.f32 0x3F000000#32 * ((if p then s else 0) + (if q then s else 0)) := by
  by_cases hp : p <;> by_cases hq : q
  · rw [if_pos hp, if_pos hq, if_pos hp, if_pos hq, mul_assoc]
    congr 1
    rw [EReal.left_distrib_of_nonneg (by norm_num) (by norm_num), mul_one]
  · rw [if_pos hp, if_neg hq, if_pos hp, if_neg hq, add_zero, add_zero, mul_one]
  · rw [if_neg hp, if_pos hq, if_neg hp, if_pos hq, zero_add, zero_add, mul_one]
  · rw [if_neg hp, if_neg hq, if_neg hp, if_neg hq, add_zero, mul_zero, mul_zero]

/-- The kernel's symmetrised entry is the reference's. -/
theorem symArr_eq (i j : Fin 10000) : symArr (simil R) (thr R) (cut R) (thrRow R) (cutRow R) i j
    = Ideal.ofBits .f32 0x3F000000#32 * (scattered R (ix2 i j) + scattered R (ix2 j i)) := by
  classical
  unfold symArr symCell
  rw [thr_apply, cut_apply, thrRow_apply, cutRow_apply, hit_nbr]
  have h2 : hit (simil R (ix2 i j)) (simil R (ix2 j (src (simKey R j) 29))) (BitVec.ofNat 32 i.val) (BitVec.ofNat 32 (src (simKey R j) 29).val)
      = if Nbr R j i then (1 : EReal) else 0 := by
    rw [simil_symm R i j]; exact hit_nbr R j i
  rw [h2, half_split, scattered_apply, scattered_apply, simil_symm R j i]

theorem final_eq (i j : Fin 10000) : symArr (simil R) (thr R) (cut R) (thrRow R) (cutRow R) i j + given R (ix2 i j) = final R (ix2 i j) := by
  rw [symArr_eq, final_apply]

theorem degArr_eq (i : Fin 10000) : degArr (simil R) (thr R) (cut R) (thrRow R) (cutRow R) (given R) i = ∑ x, final R (ix2 i x) := by
  unfold degArr
  exact congrArg (fun f : Fin 10000 → EReal => ∑ x, f x) (funext fun x => final_eq R i x)

/-! ## The scaling is a finite number that is not negative -/

theorem inv_sqrt_fin (x : EReal) (hx : 0 < x) : 0 ≤ Ideal.div 1 (Ideal.sqrt x) ∧ Ideal.div 1 (Ideal.sqrt x) ≠ ⊤ := by
  induction x using EReal.rec with
  | bot => exact absurd hx (by simp)
  | top =>
    have e : Ideal.div 1 (Ideal.sqrt ⊤) = 0 := by
      show (if (⊤ : EReal) = 0 then _ else 1 * (⊤ : EReal)⁻¹) = 0
      rw [if_neg (by simp)]
      simp
    rw [e]
    simp
  | coe r =>
    have hr : 0 < r := by exact_mod_cast hx
    have hs : 0 < Real.sqrt r := Real.sqrt_pos.2 hr
    have e : Ideal.div 1 (Ideal.sqrt (r : EReal)) = (((Real.sqrt r)⁻¹ : ℝ) : EReal) := by
      have e1 : Ideal.sqrt (r : EReal) = ((Real.sqrt r : ℝ) : EReal) := by
        show (if r < 0 then (⊥ : EReal) else (Real.sqrt r : EReal)) = _
        rw [if_neg (not_lt.2 hr.le)]
      rw [e1]
      show (if ((Real.sqrt r : ℝ) : EReal) = 0 then _ else 1 * ((Real.sqrt r : ℝ) : EReal)⁻¹) = _
      rw [if_neg (by exact_mod_cast hs.ne'), one_mul, EReal.coe_inv]
    rw [e]
    exact ⟨by exact_mod_cast (inv_pos.2 hs).le, EReal.coe_ne_top _⟩

theorem scaling_fin (i : Fin 10000) : 0 ≤ scaling R (ix1 i) ∧ scaling R (ix1 i) ≠ ⊤ := by
  rw [scaling_apply]
  split
  · exact inv_sqrt_fin _ ‹_›
  · simp

/-- A finite factor that is not negative comes out of a sum. -/
theorem sum_mul_fin {ι : Type} (s : Finset ι) (f : ι → EReal) (r : EReal) (h0 : 0 ≤ r) (ht : r ≠ ⊤) :
    (∑ x ∈ s, f x) * r = ∑ x ∈ s, f x * r := by
  classical
  induction s using Finset.induction_on with
  | empty => simp
  | insert a s ha ih => rw [Finset.sum_insert ha, Finset.sum_insert ha, EReal.right_distrib_of_nonneg_of_ne_top h0 ht, ih]

/-- The normalised matrix against a column: scaling the column first and the sum last. -/
theorem agg (i : Fin 10000) (g : Fin 10000 → EReal) :
    (∑ x, final R (ix2 i x) * (scaling R (ix1 x) * g x)) * scaling R (ix1 i)
      = ∑ x, final R (ix2 i x) * scaling R (ix1 i) * scaling R (ix1 x) * g x := by
  rw [sum_mul_fin _ _ _ (scaling_fin R i).1 (scaling_fin R i).2]
  refine Finset.sum_congr rfl fun x _ => ?_
  rw [mul_assoc, mul_comm (scaling R (ix1 x) * g x), ← mul_assoc, ← mul_assoc]

end Cert.ReferenceIdeal.Knn
end
-- ==== Proof.Host.lean ====
/-
  What the host operations leave in the buffers the pipelined calls read, as the reference's own named terms of the same
  arguments: the similarity matrix, the embedding, and the thresholds and cuts taken from the thirty greatest of each row.
-/
module

public import proofs.«01_k».proof.Proof.Gen.KernelIdeal.Frame
public import proofs.«01_k».proof.Proof.Gen.ReferenceIdeal.Run
public import Idealize.ShloMosaic.PureOps.Ideal.Laws

@[expose] public section

set_option maxRecDepth 8192

noncomputable section

namespace Cert.KernelIdeal.Knn

open Cert.KernelIdeal Cert.KernelIdeal.Gen Idealize.ShloMosaic Idealize.ShloMosaic.TcCoe Idealize.SL.Sem Idealize.ShloMosaic.StableHlo

/-- A valuation of the reference's buffers. -/
abbrev RefVal : Type := Valuation Cert.ReferenceIdeal.τ Cert.ReferenceIdeal.sig (Elt Ideal)

variable (m : (ℓ : Loc nD τ sig) → Buf (Elt Ideal) ℓ) (ρ : Dev nD → PrngReg) (c : Dev nD) (R : RefVal)

/-- The reference's arguments are the kernel's. -/
structure SameArgs : Prop where
  a0 : R (Proc.devRef .tc Cert.ReferenceIdeal.main_arg0) = m ((c : Thread nD τ).loc main_arg0)
  a1 : R (Proc.devRef .tc Cert.ReferenceIdeal.main_arg1) = m ((c : Thread nD τ).loc main_arg1)
  a2 : R (Proc.devRef .tc Cert.ReferenceIdeal.main_arg2) = m ((c : Thread nD τ).loc main_arg2)
  a3 : R (Proc.devRef .tc Cert.ReferenceIdeal.main_arg3) = m ((c : Thread nD τ).loc main_arg3)
  a4 : R (Proc.devRef .tc Cert.ReferenceIdeal.main_arg4) = m ((c : Thread nD τ).loc main_arg4)
  a5 : R (Proc.devRef .tc Cert.ReferenceIdeal.main_arg5) = m ((c : Thread nD τ).loc main_arg5)
  a6 : R (Proc.devRef .tc Cert.ReferenceIdeal.main_arg6) = m ((c : Thread nD τ).loc main_arg6)
  a7 : R (Proc.devRef .tc Cert.ReferenceIdeal.main_arg7) = m ((c : Thread nD τ).loc main_arg7)
  a8 : R (Proc.devRef .tc Cert.ReferenceIdeal.main_arg8) = m ((c : Thread nD τ).loc main_arg8)
  a9 : R (Proc.devRef .tc Cert.ReferenceIdeal.main_arg9) = m ((c : Thread nD τ).loc main_arg9)
  a10 : R (Proc.devRef .tc Cert.ReferenceIdeal.main_arg10) = m ((c : Thread nD τ).loc main_arg10)

variable {m c R} (hR : SameArgs m c R)
include hR

theorem W1_v2 : W1 m ρ c (Proc.devRef .tc main_v2) = cmpf .ogt (Cert.ReferenceIdeal.Value.res_main_v0 R) (broadcastInDim Cert.ReferenceIdeal.S10000 ![] Cert.ReferenceIdeal.Gen.bcast_S_S10000 (constant (F := Ideal) Cert.ReferenceIdeal.S_ .f32 0x00000000#32)) := by
  show after hostOps0 (W0 m ρ c) (Proc.devRef .tc main_v2) = _
  generalize hX : W0 m ρ c = X
  simp only [hostOps0, TRef.binary, TRef.nullary, TRef.ternary, TRef.unary, TRef.toBuf, TRef.ofBuf, cast_eq]
  after_results_simp
  subst hX
  rw [show W0 m ρ c (Proc.devRef .tc main_arg1) = R (Proc.devRef .tc Cert.ReferenceIdeal.main_arg1) from (W0_args m ρ c main_arg1 (by decide)).trans hR.a1.symm]
  all_goals rfl

theorem W1_v5 : W1 m ρ c (Proc.devRef .tc main_v5) = Host.divf (broadcastInDim Cert.ReferenceIdeal.S10000 ![] Cert.ReferenceIdeal.Gen.bcast_S_S10000 (constant (F := Ideal) Cert.ReferenceIdeal.S_ .f32 0x3F800000#32)) (Host.sqrt (Cert.ReferenceIdeal.Value.res_main_v0 R)) := by
  show after hostOps0 (W0 m ρ c) (Proc.devRef .tc main_v5) = _
  generalize hX : W0 m ρ c = X
  simp only [hostOps0, TRef.binary, TRef.nullary, TRef.ternary, TRef.unary, TRef.toBuf, TRef.ofBuf, cast_eq]
  after_results_simp
  subst hX
  rw [show W0 m ρ c (Proc.devRef .tc main_arg1) = R (Proc.devRef .tc Cert.ReferenceIdeal.main_arg1) from (W0_args m ρ c main_arg1 (by decide)).trans hR.a1.symm]
  all_goals rfl

theorem W1_cst2 : W1 m ρ c (Proc.devRef .tc main_cst_2) = constant (F := Ideal) Cert.ReferenceIdeal.S_ .f32 0x00000000#32 := by
  show after hostOps0 (W0 m ρ c) (Proc.devRef .tc main_cst_2) = _
  generalize hX : W0 m ρ c = X
  simp only [hostOps0, TRef.binary, TRef.nullary, TRef.ternary, TRef.unary, TRef.toBuf, TRef.ofBuf, cast_eq]
  after_results_simp
  all_goals rfl

/-- The inverse square root of the degrees. -/
theorem W2_v6 : W2 m ρ c (Proc.devRef .tc main_v6) = Cert.ReferenceIdeal.Value.res_main_v6 R := by
  show after hostOps0_1 (W1 m ρ c) (Proc.devRef .tc main_v6) = _
  generalize hX : W1 m ρ c = X
  simp only [hostOps0_1, TRef.binary, TRef.nullary, TRef.ternary, TRef.unary, TRef.toBuf, TRef.ofBuf, cast_eq]
  after_results_simp
  subst hX
  rw [W1_v2 ρ hR, W1_v5 ρ hR, W1_cst2 ρ hR]
  all_goals rfl

/-- The normalised adjacency. -/
theorem W3_v12 : W3 m ρ c (Proc.devRef .tc main_v12) = Cert.ReferenceIdeal.Value.res_main_v12 R := by
  show after hostOps0_2 (W2 m ρ c) (Proc.devRef .tc main_v12) = _
  generalize hX : W2 m ρ c = X
  simp only [hostOps0_2, TRef.binary, TRef.nullary, TRef.ternary, TRef.unary, TRef.toBuf, TRef.ofBuf, cast_eq]
  after_results_simp
  subst hX
  rw [W2_v6 ρ hR, show W2 m ρ c (Proc.devRef .tc main_arg1) = R (Proc.devRef .tc Cert.ReferenceIdeal.main_arg1) from (W2_args m ρ c main_arg1 (by decide)).trans hR.a1.symm]
  all_goals rfl

theorem W3_v17 : W3 m ρ c (Proc.devRef .tc main_v17) = addf (Host.dotGeneral (F := Ideal) (φ₁ := .f32) (φ₂ := .f32) Cert.ReferenceIdeal.dot_S10000x10000_S10000x256_S10000x256_1_0_0_1_n_n none (Cert.ReferenceIdeal.Value.res_main_v12 R) (Host.dotGeneral (F := Ideal) (φ₁ := .f32) (φ₂ := .f32) Cert.ReferenceIdeal.dot_S10000x128_S128x256_S10000x256_1_0_0_1_n_n none (R (Proc.devRef .tc Cert.ReferenceIdeal.main_arg0)) (R (Proc.devRef .tc Cert.ReferenceIdeal.main_arg2)))) (broadcastInDim Cert.ReferenceIdeal.S10000x256 ![0, 1] Cert.ReferenceIdeal.Gen.bcast_S1x256_S10000x256_0_1 (broadcastInDim Cert.ReferenceIdeal.S1x256 ![1] Cert.ReferenceIdeal.Gen.bcast_S256_S1x256_1 (R (Proc.devRef .tc Cert.ReferenceIdeal.main_arg3)))) := by
  show after hostOps0_2 (W2 m ρ c) (Proc.devRef .tc main_v17) = _
  generalize hX : W2 m ρ c = X
  simp only [hostOps0_2, TRef.binary, TRef.nullary, TRef.ternary, TRef.unary, TRef.toBuf, TRef.ofBuf, cast_eq]
  after_results_simp
  subst hX
  rw [W2_v6 ρ hR, show W2 m ρ c (Proc.devRef .tc main_arg0) = R (Proc.devRef .tc Cert.ReferenceIdeal.main_arg0) from (W2_args m ρ c main_arg0 (by decide)).trans hR.a0.symm, show W2 m ρ c (Proc.devRef .tc main_arg1) = R (Proc.devRef .tc Cert.ReferenceIdeal.main_arg1) from (W2_args m ρ c main_arg1 (by decide)).trans hR.a1.symm, show W2 m ρ c (Proc.devRef .tc main_arg2) = R (Proc.devRef .tc Cert.ReferenceIdeal.main_arg2) from (W2_args m ρ c main_arg2 (by decide)).trans hR.a2.symm, show W2 m ρ c (Proc.devRef .tc main_arg3) = R (Proc.devRef .tc Cert.ReferenceIdeal.main_arg3) from (W2_args m ρ c main_arg3 (by decide)).trans hR.a3.symm]
  all_goals rfl

theorem W4_v18 : W4 m ρ c (Proc.devRef .tc main_v18) = maximumf (addf (Host.dotGeneral (F := Ideal) (φ₁ := .f32) (φ₂ := .f32) Cert.ReferenceIdeal.dot_S10000x10000_S10000x256_S10000x256_1_0_0_1_n_n none (Cert.ReferenceIdeal.Value.res_main_v12 R) (Host.dotGeneral (F := Ideal) (φ₁ := .f32) (φ₂ := .f32) Cert.ReferenceIdeal.dot_S10000x128_S128x256_S10000x256_1_0_0_1_n_n none (R (Proc.devRef .tc Cert.ReferenceIdeal.main_arg0)) (R (Proc.devRef .tc Cert.ReferenceIdeal.main_arg2)))) (broadcastInDim Cert.ReferenceIdeal.S10000x256 ![0, 1] Cert.ReferenceIdeal.Gen.bcast_S1x256_S10000x256_0_1 (broadcastInDim Cert.ReferenceIdeal.S1x256 ![1] Cert.ReferenceIdeal.Gen.bcast_S256_S1x256_1 (R (Proc.devRef .tc Cert.ReferenceIdeal.main_arg3))))) (broadcastInDim Cert.ReferenceIdeal.S10000x256 ![] Cert.ReferenceIdeal.Gen.bcast_S_S10000x256 (constant (F := Ideal) Cert.ReferenceIdeal.S_ .f32 0x00000000#32)) := by
  show after hostOps0_3 (W3 m ρ c) (Proc.devRef .tc main_v18) = _
  generalize hX : W3 m ρ c = X
  simp only [hostOps0_3, TRef.binary, TRef.nullary, TRef.ternary, TRef.unary, TRef.toBuf, TRef.ofBuf, cast_eq]
  after_results_simp
  subst hX
  rw [W3_v17 ρ hR]
  all_goals rfl

/-- The embedding. -/
theorem W5_v23 : W5 m ρ c (Proc.devRef .tc main_v23) = Cert.ReferenceIdeal.Value.res_main_v23 R := by
  show after hostOps0_4 (W4 m ρ c) (Proc.devRef .tc main_v23) = _
  generalize hX : W4 m ρ c = X
  simp only [hostOps0_4, TRef.binary, TRef.nullary, TRef.ternary, TRef.unary, TRef.toBuf, TRef.ofBuf, cast_eq]
  after_results_simp
  subst hX
  rw [W4_v18 ρ hR, (W4_of m ρ c main_v12 (by decide)).trans (W3_v12 ρ hR), show W4 m ρ c (Proc.devRef .tc main_arg4) = R (Proc.devRef .tc Cert.ReferenceIdeal.main_arg4) from (W4_args m ρ c main_arg4 (by decide)).trans hR.a4.symm, show W4 m ρ c (Proc.devRef .tc main_arg5) = R (Proc.devRef .tc Cert.ReferenceIdeal.main_arg5) from (W4_args m ρ c main_arg5 (by decide)).trans hR.a5.symm]
  all_goals rfl

theorem W5_v29 : W5 m ρ c (Proc.devRef .tc main_v29) = Cert.ReferenceIdeal.Value.res_main_v29 R := by
  show after hostOps0_4 (W4 m ρ c) (Proc.devRef .tc main_v29) = _
  generalize hX : W4 m ρ c = X
  simp only [hostOps0_4, TRef.binary, TRef.nullary, TRef.ternary, TRef.unary, TRef.toBuf, TRef.ofBuf, cast_eq]
  after_results_simp
  subst hX
  rw [W4_v18 ρ hR, (W4_of m ρ c main_v12 (by decide)).trans (W3_v12 ρ hR), show W4 m ρ c (Proc.devRef .tc main_arg4) = R (Proc.devRef .tc Cert.ReferenceIdeal.main_arg4) from (W4_args m ρ c main_arg4 (by decide)).trans hR.a4.symm, show W4 m ρ c (Proc.devRef .tc main_arg5) = R (Proc.devRef .tc Cert.ReferenceIdeal.main_arg5) from (W4_args m ρ c main_arg5 (by decide)).trans hR.a5.symm, show W4 m ρ c (Proc.devRef .tc main_arg6) = R (Proc.devRef .tc Cert.ReferenceIdeal.main_arg6) from (W4_args m ρ c main_arg6 (by decide)).trans hR.a6.symm]
  all_goals rfl

theorem W5_v24 : W5 m ρ c (Proc.devRef .tc main_v24) = broadcastInDim Cert.ReferenceIdeal.S10000x10000 ![] Cert.ReferenceIdeal.Gen.bcast_S_S10000x10000 (constant (F := Ideal) Cert.ReferenceIdeal.S_ .f32 0x00000000#32) := by
  show after hostOps0_4 (W4 m ρ c) (Proc.devRef .tc main_v24) = _
  generalize hX : W4 m ρ c = X
  simp only [hostOps0_4, TRef.binary, TRef.nullary, TRef.ternary, TRef.unary, TRef.toBuf, TRef.ofBuf, cast_eq]
  after_results_simp
  all_goals rfl

theorem W6_v30 : W6 m ρ c (Proc.devRef .tc main_v30) = Host.sqrt (broadcastInDim Cert.ReferenceIdeal.S10000x1 ![0] Cert.ReferenceIdeal.Gen.bcast_S10000_S10000x1_0 (Host.reduceAdd (mulf (Cert.ReferenceIdeal.Value.res_main_v29 R) (Cert.ReferenceIdeal.Value.res_main_v29 R)) (constant (F := Ideal) Cert.ReferenceIdeal.S_ .f32 0x00000000#32) Cert.ReferenceIdeal.Gen.reducesTo_S10000x128_S10000_d1 Cert.ReferenceIdeal.Gen.h_S_)) := by
  show after hostOps0_5 (W5 m ρ c) (Proc.devRef .tc main_v30) = _
  generalize hX : W5 m ρ c = X
  simp only [hostOps0_5, TRef.binary, TRef.nullary, TRef.ternary, TRef.unary, TRef.toBuf, TRef.ofBuf, cast_eq]
  after_results_simp
  subst hX
  rw [W5_v29 ρ hR]
  all_goals rfl

theorem W7_v37 : W7 m ρ c (Proc.devRef .tc main_v37) = addf (broadcastInDim Cert.ReferenceIdeal.S10000x10000 ![] Cert.ReferenceIdeal.Gen.bcast_S_S10000x10000 (constant (F := Ideal) Cert.ReferenceIdeal.S_ .f32 0x00000000#32)) (Host.dotGeneral (F := Ideal) (φ₁ := .f32) (φ₂ := .f32) Cert.ReferenceIdeal.dot_S10000x128_S128x10000_S10000x10000_1_0_0_1_n_n none (Cert.ReferenceIdeal.Value.res_main_v34 R) (transpose Cert.ReferenceIdeal.S128x10000 [1, 0] (Cert.ReferenceIdeal.Value.res_main_v34 R) Cert.ReferenceIdeal.Gen.transposes_S10000x128_S128x10000_1_0)) := by
  show after hostOps0_6 (W6 m ρ c) (Proc.devRef .tc main_v37) = _
  generalize hX : W6 m ρ c = X
  simp only [hostOps0_6, TRef.binary, TRef.nullary, TRef.ternary, TRef.unary, TRef.toBuf, TRef.ofBuf, cast_eq]
  after_results_simp
  subst hX
  rw [W6_v30 ρ hR, (W6_of m ρ c main_v29 (by decide)).trans (W5_v29 ρ hR), (W6_of m ρ c main_v24 (by decide)).trans (W5_v24 ρ hR)]
  all_goals rfl

theorem W7_v42 : W7 m ρ c (Proc.devRef .tc main_v42) = Cert.ReferenceIdeal.Value.res_main_v42 R := by
  show after hostOps0_6 (W6 m ρ c) (Proc.devRef .tc main_v42) = _
  generalize hX : W6 m ρ c = X
  simp only [hostOps0_6, TRef.binary, TRef.nullary, TRef.ternary, TRef.unary, TRef.toBuf, TRef.ofBuf, cast_eq]
  after_results_simp
  subst hX
  rw [(W6_of m ρ c main_v23 (by decide)).trans (W5_v23 ρ hR), show W6 m ρ c (Proc.devRef .tc main_arg6) = R (Proc.devRef .tc Cert.ReferenceIdeal.main_arg6) from (W6_args m ρ c main_arg6 (by decide)).trans hR.a6.symm]
  all_goals rfl

theorem W8_v43 : W8 m ρ c (Proc.devRef .tc main_v43) = Host.sqrt (broadcastInDim Cert.ReferenceIdeal.S10000x1 ![0] Cert.ReferenceIdeal.Gen.bcast_S10000_S10000x1_0 (Host.reduceAdd (mulf (Cert.ReferenceIdeal.Value.res_main_v42 R) (Cert.ReferenceIdeal.Value.res_main_v42 R)) (constant (F := Ideal) Cert.ReferenceIdeal.S_ .f32 0x00000000#32) Cert.ReferenceIdeal.Gen.reducesTo_S10000x128_S10000_d1 Cert.ReferenceIdeal.Gen.h_S_)) := by
  show after hostOps0_7 (W7 m ρ c) (Proc.devRef .tc main_v43) = _
  generalize hX : W7 m ρ c = X
  simp only [hostOps0_7, TRef.binary, TRef.nullary, TRef.ternary, TRef.unary, TRef.toBuf, TRef.ofBuf, cast_eq]
  after_results_simp
  subst hX
  rw [W7_v42 ρ hR]
  all_goals rfl

/-- The similarity matrix. -/
theorem W9_v52 : W9 m ρ c (Proc.devRef .tc main_v52) = Cert.ReferenceIdeal.Value.res_main_v52 R := by
  show after hostOps0_8 (W8 m ρ c) (Proc.devRef .tc main_v52) = _
  generalize hX : W8 m ρ c = X
  simp only [hostOps0_8, TRef.binary, TRef.nullary, TRef.ternary, TRef.unary, TRef.toBuf, TRef.ofBuf, cast_eq]
  after_results_simp
  subst hX
  rw [W8_v43 ρ hR, (W8_of m ρ c main_v42 (by decide)).trans (W7_v42 ρ hR), (W8_of m ρ c main_v37 (by decide)).trans (W7_v37 ρ hR)]
  all_goals rfl

/-- Each row's threshold: its thirtieth greatest entry. -/
theorem W9_v53 : W9 m ρ c (Proc.devRef .tc main_v53) = extractStridedSlice S10000x1 ![0, 29] ((Host.topK S10000x30 1 (FloatOps.cmpfTotal .gt) (Cert.ReferenceIdeal.Value.res_main_v52 R) sliceFits_S10000x10000_S10000x30).1) slices_S10000x30_S10000x1_0_29 := by
  show after hostOps0_8 (W8 m ρ c) (Proc.devRef .tc main_v53) = _
  generalize hX : W8 m ρ c = X
  simp only [hostOps0_8, TRef.binary, TRef.nullary, TRef.ternary, TRef.unary, TRef.toBuf, TRef.ofBuf, cast_eq]
  after_results_simp
  subst hX
  rw [W8_v43 ρ hR, (W8_of m ρ c main_v42 (by decide)).trans (W7_v42 ρ hR), (W8_of m ρ c main_v37 (by decide)).trans (W7_v37 ρ hR)]
  all_goals rfl

/-- Each row's cut: that entry's position. -/
theorem W9_v54 : W9 m ρ c (Proc.devRef .tc main_v54) = extractStridedSlice S10000x1 ![0, 29] ((Host.topK S10000x30 1 (FloatOps.cmpfTotal .gt) (Cert.ReferenceIdeal.Value.res_main_v52 R) sliceFits_S10000x10000_S10000x30).2) slices_S10000x30_S10000x1_0_29 := by
  show after hostOps0_8 (W8 m ρ c) (Proc.devRef .tc main_v54) = _
  generalize hX : W8 m ρ c = X
  simp only [hostOps0_8, TRef.binary, TRef.nullary, TRef.ternary, TRef.unary, TRef.toBuf, TRef.ofBuf, cast_eq]
  after_results_simp
  subst hX
  rw [W8_v43 ρ hR, (W8_of m ρ c main_v42 (by decide)).trans (W7_v42 ρ hR), (W8_of m ρ c main_v37 (by decide)).trans (W7_v37 ρ hR)]
  all_goals rfl

theorem W9_v55 : W9 m ρ c (Proc.devRef .tc main_v55) = transpose S1x10000 [1, 0] (extractStridedSlice S10000x1 ![0, 29] ((Host.topK S10000x30 1 (FloatOps.cmpfTotal .gt) (Cert.ReferenceIdeal.Value.res_main_v52 R) sliceFits_S10000x10000_S10000x30).1) slices_S10000x30_S10000x1_0_29) transposes_S10000x1_S1x10000_1_0 := by
  show after hostOps0_8 (W8 m ρ c) (Proc.devRef .tc main_v55) = _
  generalize hX : W8 m ρ c = X
  simp only [hostOps0_8, TRef.binary, TRef.nullary, TRef.ternary, TRef.unary, TRef.toBuf, TRef.ofBuf, cast_eq]
  after_results_simp
  subst hX
  rw [W8_v43 ρ hR, (W8_of m ρ c main_v42 (by decide)).trans (W7_v42 ρ hR), (W8_of m ρ c main_v37 (by decide)).trans (W7_v37 ρ hR)]
  all_goals rfl

theorem W9_v56 : W9 m ρ c (Proc.devRef .tc main_v56) = transpose S1x10000 [1, 0] (extractStridedSlice S10000x1 ![0, 29] ((Host.topK S10000x30 1 (FloatOps.cmpfTotal .gt) (Cert.ReferenceIdeal.Value.res_main_v52 R) sliceFits_S10000x10000_S10000x30).2) slices_S10000x30_S10000x1_0_29) transposes_S10000x1_S1x10000_1_0 := by
  show after hostOps0_8 (W8 m ρ c) (Proc.devRef .tc main_v56) = _
  generalize hX : W8 m ρ c = X
  simp only [hostOps0_8, TRef.binary, TRef.nullary, TRef.ternary, TRef.unary, TRef.toBuf, TRef.ofBuf, cast_eq]
  after_results_simp
  subst hX
  rw [W8_v43 ρ hR, (W8_of m ρ c main_v42 (by decide)).trans (W7_v42 ρ hR), (W8_of m ρ c main_v37 (by decide)).trans (W7_v37 ρ hR)]
  all_goals rfl

end Cert.KernelIdeal.Knn
end
-- ==== Proof.Host2.lean ====
/-
  What the buffers hold after the first pipelined call: the degree scaling, the scaled features and the biases the two
  later calls read.
-/
module

public import proofs.«01_k».proof.Proof.Gen.KernelIdeal.Frame
public import Idealize.ShloMosaic.PureOps.Ideal.Laws

@[expose] public section

set_option maxRecDepth 8192

noncomputable section

namespace Cert.KernelIdeal.Knn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A column filled with one word. -/
def fill (w : BitVec 32) : FVec Ideal S10000x1 .f32 := broadcastInDim S10000x1 ![] bcast_S_S10000x1 (constant (F := Ideal) S_ .f32 w)

/-- One over the root of a column of row sums, or 0. -/
def scaleOf (g : FVec Ideal S10000x1 .f32) : FVec Ideal S10000x1 .f32 :=
  select (cmpf .ogt g (fill 0x00000000#32)) (Host.divf (fill 0x3F800000#32) (Host.sqrt g)) (fill 0x00000000#32)

/-- Features through a weight, scaled by row: 128 columns. -/
def feat1 (d : FVec Ideal S10000x1 .f32) (x : FVec Ideal S10000x128 .f32) (w : FVec Ideal S128x128 .f32) : FVec Ideal S10000x128 .f32 :=
  mulf (broadcastInDim S10000x128 ![0, 1] bcast_S10000x1_S10000x128_0_1 d)
    (Host.dotGeneral (F := Ideal) (φ₁ := .f32) (φ₂ := .f32) dot_S10000x128_S128x128_S10000x128_1_0_0_1_n_n none x w)

/-- Features through a weight, scaled by row: 16 columns. -/
def feat2 (d : FVec Ideal S10000x1 .f32) (x : FVec Ideal S10000x128 .f32) (w : FVec Ideal S128x16 .f32) : FVec Ideal S10000x16 .f32 :=
  mulf (broadcastInDim S10000x16 ![0, 1] bcast_S10000x1_S10000x16_0_1 d)
    (Host.dotGeneral (F := Ideal) (φ₁ := .f32) (φ₂ := .f32) dot_S10000x128_S128x16_S10000x16_1_0_0_1_n_n none x w)

/-- A bias as a row: 128 columns. -/
def bias1 (b : FVec Ideal S128 .f32) : FVec Ideal S1x128 .f32 := shapeCast S1x128 b shapeCasts_S128_S1x128

/-- A bias as a row: 16 columns. -/
def bias2 (b : FVec Ideal S16 .f32) : FVec Ideal S1x16 .f32 := shapeCast S1x16 b shapeCasts_S16_S1x16

theorem W11_v59 : W11 m ρ c (Proc.devRef .tc main_v59) = cmpf .ogt (W10 m ρ c (Proc.devRef .tc main_v57_2)) (fill 0x00000000#32) := by
  show after hostOps1 (W10 m ρ c) (Proc.devRef .tc main_v59) = _
  generalize W10 m ρ c = X
  simp only [hostOps1, TRef.binary, TRef.nullary, TRef.ternary, TRef.unary, TRef.toBuf, TRef.ofBuf, cast_eq]
  after_results_simp
  all_goals rfl

theorem W11_v62 : W11 m ρ c (Proc.devRef .tc main_v62) = Host.divf (fill 0x3F800000#32) (Host.sqrt (W10 m ρ c (Proc.devRef .tc main_v57_2))) := by
  show after hostOps1 (W10 m ρ c) (Proc.devRef .tc main_v62) = _
  generalize W10 m ρ c = X
  simp only [hostOps1, TRef.binary, TRef.nullary, TRef.ternary, TRef.unary, TRef.toBuf, TRef.ofBuf, cast_eq]
  after_results_simp
  all_goals rfl

theorem W11_cst9 : W11 m ρ c (Proc.devRef .tc main_cst_9) = constant (F := Ideal) S_ .f32 0x00000000#32 := by
  show after hostOps1 (W10 m ρ c) (Proc.devRef .tc main_cst_9) = _
  generalize W10 m ρ c = X
  simp only [hostOps1, TRef.binary, TRef.nullary, TRef.ternary, TRef.unary, TRef.toBuf, TRef.ofBuf, cast_eq]
  after_results_simp
  all_goals rfl

theorem W12_v63 : W12 m ρ c (Proc.devRef .tc main_v63) = scaleOf (W10 m ρ c (Proc.devRef .tc main_v57_2)) := by
  show after hostOps1_1 (W11 m ρ c) (Proc.devRef .tc main_v63) = _
  generalize hX : W11 m ρ c = X
  simp only [hostOps1_1, TRef.binary, TRef.nullary, TRef.ternary, TRef.unary, TRef.toBuf, TRef.ofBuf, cast_eq]
  after_results_simp
  subst hX
  rw [W11_v59, W11_v62, W11_cst9]
  all_goals rfl

theorem W13_v63 : W13 m ρ c (Proc.devRef .tc main_v63) = scaleOf (W10 m ρ c (Proc.devRef .tc main_v57_2)) :=
  (W13_of m ρ c main_v63 (by decide)).trans (W12_v63 m ρ c)

theorem W13_v57_1 : W13 m ρ c (Proc.devRef .tc main_v57_1) = W10 m ρ c (Proc.devRef .tc main_v57_1) :=
  (W13_of m ρ c main_v57_1 (by decide)).trans ((W12_of m ρ c main_v57_1 (by decide)).trans (W11_of m ρ c main_v57_1 (by decide)))

theorem W13_v66 : W13 m ρ c (Proc.devRef .tc main_v66) = feat1 (scaleOf (W10 m ρ c (Proc.devRef .tc main_v57_2)))
    (m ((c : Thread nD τ).loc main_arg0)) (m ((c : Thread nD τ).loc main_arg7)) := by
  show after hostOps1_2 (W12 m ρ c) (Proc.devRef .tc main_v66) = _
  generalize hX : W12 m ρ c = X
  simp only [hostOps1_2, TRef.binary, TRef.nullary, TRef.ternary, TRef.unary, TRef.toBuf, TRef.ofBuf, cast_eq]
  after_results_simp
  subst hX
  rw [W12_v63, W12_args m ρ c main_arg0 (by decide), W12_args m ρ c main_arg7 (by decide)]
  all_goals rfl

theorem W13_v67 : W13 m ρ c (Proc.devRef .tc main_v67) = bias1 (m ((c : Thread nD τ).loc main_arg8)) := by
  show after hostOps1_2 (W12 m ρ c) (Proc.devRef .tc main_v67) = _
  generalize hX : W12 m ρ c = X
  simp only [hostOps1_2, TRef.binary, TRef.nullary, TRef.ternary, TRef.unary, TRef.toBuf, TRef.ofBuf, cast_eq]
  after_results_simp
  subst hX
  rw [W12_args m ρ c main_arg8 (by decide)]
  all_goals rfl

theorem W15_v63 : W15 m ρ c (Proc.devRef .tc main_v63) = scaleOf (W10 m ρ c (Proc.devRef .tc main_v57_2)) :=
  (W15_of m ρ c main_v63 (by decide)).trans ((W14_of m ρ c main_v63 (by decide)).trans (W13_v63 m ρ c))

theorem W15_v57_1 : W15 m ρ c (Proc.devRef .tc main_v57_1) = W10 m ρ c (Proc.devRef .tc main_v57_1) :=
  (W15_of m ρ c main_v57_1 (by decide)).trans ((W14_of m ρ c main_v57_1 (by decide)).trans (W13_v57_1 m ρ c))

theorem W15_v71 : W15 m ρ c (Proc.devRef .tc main_v71) = feat2 (scaleOf (W10 m ρ c (Proc.devRef .tc main_v57_2)))
    (W14 m ρ c (Proc.devRef .tc main_v68)) (m ((c : Thread nD τ).loc main_arg9)) := by
  show after hostOps2 (W14 m ρ c) (Proc.devRef .tc main_v71) = _
  generalize hX : W14 m ρ c = X
  simp only [hostOps2, TRef.binary, TRef.nullary, TRef.ternary, TRef.unary, TRef.toBuf, TRef.ofBuf, cast_eq]
  after_results_simp
  subst hX
  rw [(W14_of m ρ c main_v63 (by decide)).trans (W13_v63 m ρ c), W14_args m ρ c main_arg9 (by decide)]
  all_goals rfl

theorem W15_v72 : W15 m ρ c (Proc.devRef .tc main_v72) = bias2 (m ((c : Thread nD τ).loc main_arg10)) := by
  show after hostOps2 (W14 m ρ c) (Proc.devRef .tc main_v72) = _
  generalize hX : W14 m ρ c = X
  simp only [hostOps2, TRef.binary, TRef.nullary, TRef.ternary, TRef.unary, TRef.toBuf, TRef.ofBuf, cast_eq]
  after_results_simp
  subst hX
  rw [W14_args m ρ c main_arg10 (by decide)]
  all_goals rfl

theorem W16_v57_0 : W16 m ρ c (Proc.devRef .tc main_v57_0) = W10 m ρ c (Proc.devRef .tc main_v57_0) :=
  (W16_of m ρ c main_v57_0 (by decide)).trans ((W15_of m ρ c main_v57_0 (by decide)).trans ((W14_of m ρ c main_v57_0 (by decide)).trans
    ((W13_of m ρ c main_v57_0 (by decide)).trans ((W12_of m ρ c main_v57_0 (by decide)).trans (W11_of m ρ c main_v57_0 (by decide))))))

theorem W16_v57_1 : W16 m ρ c (Proc.devRef .tc main_v57_1) = W10 m ρ c (Proc.devRef .tc main_v57_1) :=
  (W16_of m ρ c main_v57_1 (by decide)).trans (W15_v57_1 m ρ c)

theorem W16_v23 : W16 m ρ c (Proc.devRef .tc main_v23) = W5 m ρ c (Proc.devRef .tc main_v23) :=
  (W16_of m ρ c main_v23 (by decide)).trans ((W15_of m ρ c main_v23 (by decide)).trans ((W14_of m ρ c main_v23 (by decide)).trans
    ((W13_of m ρ c main_v23 (by decide)).trans ((W12_of m ρ c main_v23 (by decide)).trans ((W11_of m ρ c main_v23 (by decide)).trans
    ((W10_of m ρ c main_v23 (by decide)).trans ((W9_of m ρ c main_v23 (by decide)).trans ((W8_of m ρ c main_v23 (by decide)).trans
    ((W7_of m ρ c main_v23 (by decide)).trans (W6_of m ρ c main_v23 (by decide)))))))))))

end Cert.KernelIdeal.Knn
end
-- ==== Proof.Entries.lean ====
/-
  The host operations after the first call, the reference's results and the two scaled products, entry by entry.
-/
module

public import proofs.«01_k».proof.Proof.Alg
public import proofs.«01_k».proof.Proof.Host
public import proofs.«01_k».proof.Proof.Host2

@[expose] public section

set_option maxRecDepth 16384

noncomputable section

namespace Cert.KernelIdeal.Knn

open Cert.KernelIdeal Cert.KernelIdeal.Gen Idealize.ShloMosaic Idealize.ShloMosaic.TcCoe Idealize.SL.Sem Idealize.ShloMosaic.StableHlo
open Cert.ReferenceIdeal.Knn (simil final given scattered scaling thr cut thrRow cutRow)

/-! ## The host operations after the first call, entry by entry -/

theorem scaleOf_apply (g : FVec Ideal S10000x1 .f32) (a : Fin 10000) :
    scaleOf g (ix2 a 0) = if 0 < g (ix2 a 0) then Ideal.div 1 (Ideal.sqrt (g (ix2 a 0))) else (0 : EReal) := by
  unfold scaleOf fill
  pointwise

theorem feat1_apply (d : FVec Ideal S10000x1 .f32) (x : FVec Ideal S10000x128 .f32) (w : FVec Ideal S128x128 .f32) (a : Fin 10000) (b : Fin 128) :
    feat1 d x w (ix2 a b) = d (ix2 a 0) * ∑ k : Fin 128, x (ix2 a k) * w (ix2 k b) := by
  unfold feat1
  pointwise

theorem feat2_apply (d : FVec Ideal S10000x1 .f32) (x : FVec Ideal S10000x128 .f32) (w : FVec Ideal S128x16 .f32) (a : Fin 10000) (b : Fin 16) :
    feat2 d x w (ix2 a b) = d (ix2 a 0) * ∑ k : Fin 128, x (ix2 a k) * w (ix2 k b) := by
  unfold feat2
  pointwise

theorem bias1_apply (β : FVec Ideal S128 .f32) (b : Fin 128) : bias1 β (ix2 0 b) = β (ix1 b) := by
  unfold bias1
  pointwise

theorem bias2_apply (β : FVec Ideal S16 .f32) (b : Fin 16) : bias2 β (ix2 0 b) = β (ix1 b) := by
  unfold bias2
  pointwise

/-! ## The reference's results -/

section
open Cert.ReferenceIdeal Cert.ReferenceIdeal.Gen Cert.ReferenceIdeal.Value

/-- The symmetrised matrix. -/
def refSym (R : RefVal) : FVec Ideal Cert.ReferenceIdeal.S10000x10000 .f32 :=
  mulf (broadcastInDim Cert.ReferenceIdeal.S10000x10000 ![] Cert.ReferenceIdeal.Gen.bcast_S_S10000x10000 (constant (F := Ideal) Cert.ReferenceIdeal.S_ .f32 0x3F000000#32)) (addf (res_main_v70 R) (transpose Cert.ReferenceIdeal.S10000x10000 [1, 0] (res_main_v70 R) Cert.ReferenceIdeal.Gen.transposes_S10000x10000_S10000x10000_1_0))

/-- The hidden features. -/
def refHid (R : RefVal) : FVec Ideal Cert.ReferenceIdeal.S10000x128 .f32 :=
  maximumf (addf (Host.dotGeneral (F := Ideal) (φ₁ := .f32) (φ₂ := .f32) Cert.ReferenceIdeal.dot_S10000x10000_S10000x128_S10000x128_1_0_0_1_n_n none (res_main_v88 R) (Host.dotGeneral (F := Ideal) (φ₁ := .f32) (φ₂ := .f32) Cert.ReferenceIdeal.dot_S10000x128_S128x128_S10000x128_1_0_0_1_n_n none (R (Proc.devRef .tc Cert.ReferenceIdeal.main_arg0)) (R (Proc.devRef .tc Cert.ReferenceIdeal.main_arg7)))) (broadcastInDim Cert.ReferenceIdeal.S10000x128 ![0, 1] Cert.ReferenceIdeal.Gen.bcast_S1x128_S10000x128_0_1 (broadcastInDim Cert.ReferenceIdeal.S1x128 ![1] Cert.ReferenceIdeal.Gen.bcast_S128_S1x128_1 (R (Proc.devRef .tc Cert.ReferenceIdeal.main_arg8))))) (broadcastInDim Cert.ReferenceIdeal.S10000x128 ![] Cert.ReferenceIdeal.Gen.bcast_S_S10000x128 (constant (F := Ideal) Cert.ReferenceIdeal.S_ .f32 0x00000000#32))

/-- The classes. -/
def refOut (R : RefVal) : FVec Ideal Cert.ReferenceIdeal.S10000x16 .f32 :=
  addf (Host.dotGeneral (F := Ideal) (φ₁ := .f32) (φ₂ := .f32) Cert.ReferenceIdeal.dot_S10000x10000_S10000x16_S10000x16_1_0_0_1_n_n none (res_main_v88 R) (Host.dotGeneral (F := Ideal) (φ₁ := .f32) (φ₂ := .f32) Cert.ReferenceIdeal.dot_S10000x128_S128x16_S10000x16_1_0_0_1_n_n none (refHid R) (R (Proc.devRef .tc Cert.ReferenceIdeal.main_arg9)))) (broadcastInDim Cert.ReferenceIdeal.S10000x16 ![0, 1] Cert.ReferenceIdeal.Gen.bcast_S1x16_S10000x16_0_1 (broadcastInDim Cert.ReferenceIdeal.S1x16 ![1] Cert.ReferenceIdeal.Gen.bcast_S16_S1x16_1 (R (Proc.devRef .tc Cert.ReferenceIdeal.main_arg10))))
end

section
variable (R : RefVal) (x : FVec Ideal S10000x128 .f32) (w : FVec Ideal S128x128 .f32) (β : FVec Ideal S128 .f32)
  (w2 : FVec Ideal S128x16 .f32) (β2 : FVec Ideal S16 .f32)

theorem refSym_apply (a b : Fin 10000) : refSym R (ix2 a b) = Ideal.ofBits .f32 0x3F000000#32 * (scattered R (ix2 a b) + scattered R (ix2 b a)) := by
  unfold refSym scattered
  pointwise

theorem refHid_apply (hx : R (Proc.devRef .tc Cert.ReferenceIdeal.main_arg0) = x) (hw : R (Proc.devRef .tc Cert.ReferenceIdeal.main_arg7) = w)
    (hβ : R (Proc.devRef .tc Cert.ReferenceIdeal.main_arg8) = β) (a : Fin 10000) (b : Fin 128) :
    refHid R (ix2 a b) = max ((∑ y, final R (ix2 a y) * scaling R (ix1 a) * scaling R (ix1 y) * ∑ k : Fin 128, x (ix2 y k) * w (ix2 k b)) + β (ix1 b)) (0 : EReal) := by
  unfold refHid
  rw [hx, hw, hβ]
  pointwise [Cert.ReferenceIdeal.Knn.v88_apply]

theorem refOut_apply (hw : R (Proc.devRef .tc Cert.ReferenceIdeal.main_arg9) = w2)
    (hβ : R (Proc.devRef .tc Cert.ReferenceIdeal.main_arg10) = β2) (a : Fin 10000) (b : Fin 16) :
    refOut R (ix2 a b) = (∑ y, final R (ix2 a y) * scaling R (ix1 a) * scaling R (ix1 y) * ∑ k : Fin 128, refHid R (ix2 y k) * w2 (ix2 k b)) + β2 (ix1 b) := by
  unfold refOut
  rw [hw, hβ]
  pointwise [Cert.ReferenceIdeal.Knn.v88_apply]
end

/-! ## The two scaled products -/

theorem prod1_eq (R : RefVal) (g : FVec Ideal S10000x1 .f32) (hg : ∀ a, scaleOf g (ix2 a 0) = scaling R (ix1 a))
    (x : FVec Ideal S10000x128 .f32) (w : FVec Ideal S128x128 .f32) (β : FVec Ideal S128 .f32) (a : Fin 10000) (b : Fin 128) :
    mmArr (n := 128) (final R) (feat1 (scaleOf g) x w) (scaleOf g) (bias1 β) a b
      = (∑ y, final R (ix2 a y) * scaling R (ix1 a) * scaling R (ix1 y) * ∑ k : Fin 128, x (ix2 y k) * w (ix2 k b)) + β (ix1 b) := by
  unfold mmArr
  rw [hg, bias1_apply, ← Cert.ReferenceIdeal.Knn.agg R a (fun y => ∑ k : Fin 128, x (ix2 y k) * w (ix2 k b))]
  refine congrArg (fun f : Fin 10000 → EReal => (∑ x, f x) * scaling R (ix1 a) + β (ix1 b)) (funext fun y => ?_)
  rw [feat1_apply, hg]

theorem prod2_eq (R : RefVal) (g : FVec Ideal S10000x1 .f32) (hg : ∀ a, scaleOf g (ix2 a 0) = scaling R (ix1 a))
    (x : FVec Ideal S10000x128 .f32) (w : FVec Ideal S128x16 .f32) (β : FVec Ideal S16 .f32) (a : Fin 10000) (b : Fin 16) :
    mmArr (n := 16) (final R) (feat2 (scaleOf g) x w) (scaleOf g) (bias2 β) a b
      = (∑ y, final R (ix2 a y) * scaling R (ix1 a) * scaling R (ix1 y) * ∑ k : Fin 128, x (ix2 y k) * w (ix2 k b)) + β (ix1 b) := by
  unfold mmArr
  rw [hg, bias2_apply, ← Cert.ReferenceIdeal.Knn.agg R a (fun y => ∑ k : Fin 128, x (ix2 y k) * w (ix2 k b))]
  refine congrArg (fun f : Fin 10000 → EReal => (∑ x, f x) * scaling R (ix1 a) + β (ix1 b)) (funext fun y => ?_)
  rw [feat2_apply, hg]

end Cert.KernelIdeal.Knn
end
-- ==== Proof.Value.lean ====
/-
  The four results of the kernel as the reference's terms: what the buffers hold at the end of the run.
-/
module

public import proofs.«01_k».proof.Proof.Entries

@[expose] public section

set_option maxRecDepth 16384

noncomputable section

namespace Cert.KernelIdeal.Knn

open Cert.KernelIdeal Cert.KernelIdeal.Gen Idealize.ShloMosaic Idealize.ShloMosaic.TcCoe Idealize.SL.Sem Idealize.ShloMosaic.StableHlo
open Cert.ReferenceIdeal.Knn (simil final given scattered scaling thr cut thrRow cutRow)

/-! ## What the buffers hold -/

variable (m : (ℓ : Loc nD τ sig) → Buf (Elt Ideal) ℓ) (ρ : Dev nD → PrngReg) (c : Dev nD) (R : RefVal)
variable {m c R} (hR : SameArgs m c R)
include hR

theorem W10_sym : W10 m ρ c (Proc.devRef .tc main_v57_0) = refSym R := by
  refine (W10_arr m ρ c 6).trans ((arr_sym (V9 m ρ) c).trans (funext fun y => ?_))
  obtain ⟨a, b, rfl⟩ : ∃ (a : Fin 10000) (b : Fin 10000), y = ix2 a b := ⟨y 0, y 1, eq_ix2 y⟩
  show symArr (W9 m ρ c (Proc.devRef .tc main_v52)) (W9 m ρ c (Proc.devRef .tc main_v53)) (W9 m ρ c (Proc.devRef .tc main_v54)) (W9 m ρ c (Proc.devRef .tc main_v55)) (W9 m ρ c (Proc.devRef .tc main_v56)) a b = _
  rw [W9_v52 ρ hR, W9_v53 ρ hR, W9_v54 ρ hR, W9_v55 ρ hR, W9_v56 ρ hR]
  exact (Cert.ReferenceIdeal.Knn.symArr_eq R a b).trans (refSym_apply R a b).symm

theorem W10_final : W10 m ρ c (Proc.devRef .tc main_v57_1) = final R := by
  refine (W10_arr m ρ c 7).trans ((arr_fin (V9 m ρ) c).trans (funext fun y => ?_))
  obtain ⟨a, b, rfl⟩ : ∃ (a : Fin 10000) (b : Fin 10000), y = ix2 a b := ⟨y 0, y 1, eq_ix2 y⟩
  show symArr (W9 m ρ c (Proc.devRef .tc main_v52)) (W9 m ρ c (Proc.devRef .tc main_v53)) (W9 m ρ c (Proc.devRef .tc main_v54)) (W9 m ρ c (Proc.devRef .tc main_v55)) (W9 m ρ c (Proc.devRef .tc main_v56)) a b
    + (W9 m ρ c (Proc.devRef .tc main_arg1) : FVec Ideal S10000x10000 .f32) (ix2 a b) = _
  rw [W9_v52 ρ hR, W9_v53 ρ hR, W9_v54 ρ hR, W9_v55 ρ hR, W9_v56 ρ hR, W9_args m ρ c main_arg1 (by decide), ← hR.a1]
  exact Cert.ReferenceIdeal.Knn.final_eq R a b

theorem W10_deg (a : Fin 10000) : (W10 m ρ c (Proc.devRef .tc main_v57_2) : FVec Ideal S10000x1 .f32) (ix2 a 0) = ∑ x, final R (ix2 a x) := by
  refine (congrFun ((W10_arr m ρ c 8).trans (arr_deg (V9 m ρ) c)) (ix2 a 0)).trans ?_
  show degArr (W9 m ρ c (Proc.devRef .tc main_v52)) (W9 m ρ c (Proc.devRef .tc main_v53)) (W9 m ρ c (Proc.devRef .tc main_v54)) (W9 m ρ c (Proc.devRef .tc main_v55)) (W9 m ρ c (Proc.devRef .tc main_v56)) (W9 m ρ c (Proc.devRef .tc main_arg1)) a = _
  rw [W9_v52 ρ hR, W9_v53 ρ hR, W9_v54 ρ hR, W9_v55 ρ hR, W9_v56 ρ hR, W9_args m ρ c main_arg1 (by decide), ← hR.a1]
  exact Cert.ReferenceIdeal.Knn.degArr_eq R a

theorem scale_eq (a : Fin 10000) : scaleOf (W10 m ρ c (Proc.devRef .tc main_v57_2)) (ix2 a 0) = scaling R (ix1 a) := by
  rw [scaleOf_apply, W10_deg ρ hR, Cert.ReferenceIdeal.Knn.scaling_apply]

theorem W14_hid : W14 m ρ c (Proc.devRef .tc main_v68) = refHid R := by
  refine (W14_arr m ρ c 4).trans ((arr_mm1 (V13 m ρ) c).trans (funext fun y => ?_))
  obtain ⟨a, b, rfl⟩ : ∃ (a : Fin 10000) (b : Fin 128), y = ix2 a b := ⟨y 0, y 1, eq_ix2 y⟩
  show max (mmArr (n := 128) (W13 m ρ c (Proc.devRef .tc main_v57_1)) (W13 m ρ c (Proc.devRef .tc main_v66)) (W13 m ρ c (Proc.devRef .tc main_v63)) (W13 m ρ c (Proc.devRef .tc main_v67)) a b) (0 : EReal) = _
  rw [W13_v57_1, W10_final ρ hR, W13_v66, W13_v63, W13_v67, refHid_apply R _ _ _ hR.a0 hR.a7 hR.a8]
  rw [prod1_eq R _ (scale_eq ρ hR)]

theorem W16_out : W16 m ρ c (Proc.devRef .tc main_v73) = refOut R := by
  refine (W16_arr m ρ c 4).trans ((arr_mm2 (V15 m ρ) c).trans (funext fun y => ?_))
  obtain ⟨a, b, rfl⟩ : ∃ (a : Fin 10000) (b : Fin 16), y = ix2 a b := ⟨y 0, y 1, eq_ix2 y⟩
  show mmArr (n := 16) (W15 m ρ c (Proc.devRef .tc main_v57_1)) (W15 m ρ c (Proc.devRef .tc main_v71)) (W15 m ρ c (Proc.devRef .tc main_v63)) (W15 m ρ c (Proc.devRef .tc main_v72)) a b = _
  rw [W15_v57_1, W10_final ρ hR, W15_v71, W15_v63, W15_v72, W14_hid ρ hR, refOut_apply R _ _ hR.a9 hR.a10]
  rw [prod2_eq R _ (scale_eq ρ hR)]

theorem W16_sym : W16 m ρ c (Proc.devRef .tc main_v57_0) = refSym R := (W16_v57_0 m ρ c).trans (W10_sym ρ hR)

theorem W16_final : W16 m ρ c (Proc.devRef .tc main_v57_1) = Cert.ReferenceIdeal.Value.res_main_v75 R := (W16_v57_1 m ρ c).trans (W10_final ρ hR)

theorem W16_emb : W16 m ρ c (Proc.devRef .tc main_v23) = Cert.ReferenceIdeal.Value.res_main_v23 R := (W16_v23 m ρ c).trans (W5_v23 ρ hR)

end Cert.KernelIdeal.Knn
end
-- ==== Proof.KRun.lean ====
/-
  The kernel's run: every execution ends with each buffer at its place in the run's fold of contents.
-/
module

public import proofs.«01_k».proof.Proof.Gen.KernelIdeal.Frame

@[expose] public section

noncomputable section

namespace Cert.KernelIdeal.Gen

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch of the frame, reading the four results at the end beside the arguments. -/
theorem valueRun : θ_run defs (onTc (τ := τ) (main (F := F))) ⟨m, fun _ => 0, ρ⟩ (fun r => ∀ c : Dev nD,
      r.2.mem ((c.tc : Thread nD τ).loc main_v73) = W16 m ρ c (Proc.devRef .tc main_v73)
      ∧ r.2.mem ((c.tc : Thread nD τ).loc main_v57_0) = W16 m ρ c (Proc.devRef .tc main_v57_0)
      ∧ r.2.mem ((c.tc : Thread nD τ).loc main_v57_1) = W16 m ρ c (Proc.devRef .tc main_v57_1)
      ∧ r.2.mem ((c.tc : Thread nD τ).loc main_v23) = W16 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ => fun c =>
      ⟨h c _ (mem_uc main_v73 (by decide)),
       h c _ (mem_uc main_v57_0 (by decide)),
       h c _ (mem_uc main_v57_1 (by decide)),
       h c _ (mem_uc main_v23 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.Gen
end
-- ==== Proof.Algebraic.lean ====
/-
  The claims about the whole computation: the frames, and that kernel and reference agree over the extended reals.
-/
module

public import proofs.«01_k».proof.Defs
public import proofs.«01_k».proof.Proof.Value
public import proofs.«01_k».proof.Proof.KRun
public import proofs.«01_k».proof.Proof.Gen.Kernel
public import proofs.«01_k».proof.Proof.Gen.Kernel.Frame
public import proofs.«01_k».proof.Proof.Gen.KernelIdeal
public import proofs.«01_k».proof.Proof.Gen.ReferenceIdeal
public import Idealize.ShloMosaic.Lib.Claim

@[expose] public section

set_option maxRecDepth 8192

noncomputable section

namespace Cert.Proof

open Idealize.ShloMosaic Idealize.ShloMosaic.TcCoe Idealize.SL.Sem
open Cert.KernelIdeal.Knn (SameArgs RefVal)

/-- The kernel's frame, word for word. -/
theorem frame_kernel : Cert.quiescent_Kernel := fun m ρ _ => Cert.Kernel.Gen.frame m ρ

/-- The kernel's frame over the extended reals. -/
theorem frame_kernelIdeal : Cert.quiescent_KernelIdeal := fun m ρ _ => Cert.KernelIdeal.Gen.frame m ρ

/-- The reference's frame over the extended reals. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The kernel's run ends at the reference's four terms of the same arguments. -/
theorem algebraic : Cert.algebraic_KernelIdeal_ReferenceIdeal := by
  intro m ρ m' ρ' _ hagree
  have hR : ∀ c : Dev Cert.KernelIdeal.nD, SameArgs m c (StableHlo.launchContents m' c) := fun c => by
    obtain ⟨h0, h1, h2, h3, h4, h5, h6, h7, h8, h9, h10⟩ := hagree c
    exact ⟨h0, h1, h2, h3, h4, h5, h6, h7, h8, h9, h10⟩
  refine ⟨fun c => Cert.KernelIdeal.Knn.refOut (StableHlo.launchContents m' c),
    fun c => Cert.KernelIdeal.Knn.refSym (StableHlo.launchContents m' c),
    fun c => Cert.ReferenceIdeal.Value.res_main_v75 (StableHlo.launchContents m' c),
    fun c => Cert.ReferenceIdeal.Value.res_main_v23 (StableHlo.launchContents m' c), ?_, ?_⟩
  · refine (θ_run Cert.KernelIdeal.defs _ _).mono (fun r h c => ?_) (Cert.KernelIdeal.Gen.valueRun (F := Ideal) m ρ)
    obtain ⟨h1, h2, h3, h4, hargs⟩ := h c
    exact ⟨h1.trans (Cert.KernelIdeal.Knn.W16_out ρ (hR c)), h2.trans (Cert.KernelIdeal.Knn.W16_sym ρ (hR c)),
      h3.trans (Cert.KernelIdeal.Knn.W16_final ρ (hR c)), h4.trans (Cert.KernelIdeal.Knn.W16_emb ρ (hR c)), hargs⟩
  · exact Cert.ReferenceIdeal.Value.run (F := Ideal) m' ρ'

end Cert.Proof
end
-- ==== Proof.SelRun.lean ====
/-
  The selection kernel's body, run once on whole staging buffers at any values. The first bisection's trip has a
  conditional that yields a value; the trip is a pure function of the carried pair, so the loop is a fold.
-/
module

public import proofs.«01_k».proof.Proof.Gen.Select.Frame
public import proofs.«01_k».proof.Proof.Gen.Select.Skeleton
public import proofs.«01_k».proof.Proof.Gen.Select.Loops
public import proofs.«01_k».proof.Proof.Gen.Select.Points
public import Idealize.ShloMosaic.Lib.VecWindow
public import Idealize.ShloMosaic.Lib.Pipeline.ValueKit

@[expose] public section

set_option maxRecDepth 16384

noncomputable section

namespace Cert.Select.Knn

open Cert.Select Cert.Select.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- Whether some row's interval is still wider than one: the condition a trip of the first bisection computes. -/
def wide (a b : IVec S200x1 32) : BitVec 32 :=
  Scalar.extui (Scalar.cmpf (F := F) .ogt (k0_pay9 (F := F) a b) (Scalar.ofBits (F := F) .f32 0x00000000#32))

/-- One trip of the first bisection: the halved intervals while some row is wide, the pair as it is afterwards. -/
def trip (v11 : Vec F S200x10000 .i32) (p : IVec S200x1 32 × IVec S200x1 32) : IVec S200x1 32 × IVec S200x1 32 :=
  if Scalar.cmpi .ne (wide (F := F) p.1 p.2) 0#32 = 1#1 then (k0_pay12 (F := F) v11 p.1 p.2, k0_pay13 (F := F) v11 p.1 p.2) else p

theorem trip_pure (i : grid0.Coords) (arg1 : Memref sig .tc .vmem S200x10000 .f32) (harg1 : arg1.IsWhole) (arg2 : Memref sig .tc .vmem S200x1 .f32) (harg2 : arg2.IsWhole) (arg3 : Memref sig .tc .vmem S200x1 .i32) (harg3 : arg3.IsWhole) (arg4 : Memref sig .tc .vmem S200x10000 .i32) (harg4 : arg4.IsWhole)
    (v11 : Vec F S200x10000 .i32) :
    k0_t1_body (F := F) i arg1 harg1 arg2 harg2 arg3 harg3 arg4 harg4 v11 = fun _ p => pure (trip v11 p) := by
  funext k ⟨a, b⟩
  unfold k0_t1_body trip wide
  dsimp only
  split <;> rfl

/-- The pair the first bisection ends with, of the keys. -/
def fin1 (v11 : Vec F S200x10000 .i32) : IVec S200x1 32 × IVec S200x1 32 :=
  Scf.fold (n := k0_t1_loop.trips) (fun _ p => trip (F := F) v11 p) (k0_pay7 (F := F) v11, k0_pay8 (F := F) v11)

/-- The pair the second bisection ends with, of the keys. -/
def fin2 (v11 : Vec F S200x10000 .i32) : IVec S200x1 32 × IVec S200x1 32 :=
  Scf.fold (n := k0_t2_loop.trips) (fun _ p => (k0_pay3 (F := F) (k0_pay14 (F := F) v11 (fin1 (F := F) v11).1) (k0_pay15 (F := F) v11 (fin1 (F := F) v11).1) p.1 p.2,
      k0_pay4 (F := F) (k0_pay14 (F := F) v11 (fin1 (F := F) v11).1) (k0_pay15 (F := F) v11 (fin1 (F := F) v11).1) p.1 p.2)) (k0_pay16, k0_pay17)

set_option maxHeartbeats 1000000 in
/-- The body on whole staging buffers: the outputs end at the two results of the block, the scratch at some contents. -/
theorem bodyRun (c : Dev nD) (i : grid0.Coords) (arg1 : Memref sig .tc .vmem S200x10000 .f32) (harg1 : arg1.IsWhole) (arg2 : Memref sig .tc .vmem S200x1 .f32) (harg2 : arg2.IsWhole) (arg3 : Memref sig .tc .vmem S200x1 .i32) (harg3 : arg3.IsWhole) (arg4 : Memref sig .tc .vmem S200x10000 .i32) (harg4 : arg4.IsWhole)
    (x0 : Vec F S200x10000 .f32) (E : Set ℕ) (K : PUnit → sProp 𝕄) :
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare (k0_pay5 (F := F) (fin1 (F := F) (k0_pay6 x0)).1) ∗ owns (c : Thread nD τ) arg3 fullShare (fin2 (F := F) (k0_pay6 x0)).1 ∗ (∃ d, owns (c : Thread nD τ) arg4 fullShare d)) -∗ K ⟨⟩))
          ⊢ wp frame (wpE (defs₀ (F := F)) Variants.none c none) E (cc0__select_kernel i arg1 harg1 arg2 harg2 arg3 harg3 arg4 harg4) K := by
    simp only [cc0__select_kernel_eq_skeleton]; unfold cc0__select_kernel_skel
    simp only [k0_part1_eq_skeleton]
    unfold k0_part1_skel
    simp only [trip_pure, bind_assoc, pure_bind]
    unfold owns
    iintro ⟨⟨%f0, %hf0, H0⟩, ⟨%d1, %f1, -, H1⟩, ⟨%d2, %f2, -, H2⟩, ⟨%ds0, %fs0, -, HS0⟩, Hk⟩
    obtain rfl := harg1.eq_unread hf0
    sl_exec
    sl_step
    have hv : arg4.view.readCov (Val := Elt F) [⟨Rect.unit (s := S200x10000) ![0, 0] S200x10000.size inb_S200x10000_S200x10000_0_0,
          k0_pay6 (F := F) (View.readAt (Elt F) arg1.view (Rect.unit (s := S200x10000) ![0, 0] S200x10000.size inb_S200x10000_S200x10000_0_0).toLoadRect
            (harg1.unread x0))⟩] (Rect.unit (s := S200x10000) ![0, 0] S200x10000.size inb_S200x10000_S200x10000_0_0).toLoadRect
        = (k0_pay6 (F := F) x0 : Vec F S200x10000 .i32) := by
      refine (View.readCov_full arg4.view _ _ _ []).trans ?_
      rw [View.readAt_full, harg1.read_unread]
    iapply Hk
    isplitl [H0]
    · iexists _; isplitr; · ipureintro; exact harg1.read_unread _
      iexact H0
    isplitl [H1]
    · iexists _; isplitr
      swap; · iexact H1
      ipureintro
      refine (View.read_writes_full arg2.view f1 _ _ []).trans ?_
      frame_open
      rw [hv]
      rfl
    isplitl [H2]
    · iexists _; isplitr
      swap; · iexact H2
      ipureintro
      refine (View.read_writes_full arg3.view f2 _ _ []).trans ?_
      frame_open
      rw [hv]
      rfl
    iexists _; iexists _; isplitr
    swap; · iexact HS0
    ipureintro; rfl

end Cert.Select.Knn

end
-- ==== Proof.Bisect.lean ====
/-
  Two bisections over signed 32-bit words: the first brackets the K-th greatest key of a row, the second finds the position at
  which the ties with that key are used up. Together they are the place K - 1 of the stable sort.
-/
module

public import proofs.«01_k».proof.Proof.Ranks
public import Mathlib.Data.BitVec
public import Mathlib.Tactic.Linarith

@[expose] public section

namespace Knn

/-! ## The middle of two words -/

theorem and_xor_add (n : ℕ) : ∀ x y : ℕ, x < 2 ^ n → y < 2 ^ n → 2 * (x &&& y) + (x ^^^ y) = x + y := by
  induction n with
  | zero =>
    intro x y hx hy
    obtain rfl : x = 0 := by omega
    obtain rfl : y = 0 := by omega
    rfl
  | succ n ih =>
    intro x y hx hy
    have h := ih (x / 2) (y / 2) (by omega) (by omega)
    rw [← Nat.and_div_two, ← Nat.xor_div_two] at h
    have ha : (x &&& y) % 2 = 1 ↔ x % 2 = 1 ∧ y % 2 = 1 := Nat.and_mod_two_eq_one
    have hb : (x ^^^ y) % 2 = 1 ↔ ¬ ((x % 2 = 1) ↔ (y % 2 = 1)) := Nat.xor_mod_two_eq_one
    rcases Nat.mod_two_eq_zero_or_one x with h1 | h1 <;> rcases Nat.mod_two_eq_zero_or_one y with h2 | h2 <;> omega

theorem and_xor_toInt (x y : BitVec 32) : 2 * (x &&& y).toInt + (x ^^^ y).toInt = x.toInt + y.toInt := by
  have h := and_xor_add 32 x.toNat y.toNat x.isLt y.isLt
  rw [BitVec.toInt_eq_msb_cond x, BitVec.toInt_eq_msb_cond y, BitVec.toInt_eq_msb_cond (x &&& y), BitVec.toInt_eq_msb_cond (x ^^^ y),
    BitVec.msb_and, BitVec.msb_xor, BitVec.toNat_and, BitVec.toNat_xor]
  cases x.msb <;> cases y.msb <;> simp <;> omega

/-- The middle of two words, rounded down, without a sum that could wrap. -/
def mid (lo hi : BitVec 32) : BitVec 32 := (lo &&& hi) + (lo ^^^ hi).sshiftRight 1

theorem mid_toInt (lo hi : BitVec 32) : (mid lo hi).toInt = (lo.toInt + hi.toInt) / 2 := by
  have h := and_xor_toInt lo hi
  have hl := lo.toInt_lt
  have hl' := lo.le_toInt
  have hh := hi.toInt_lt
  have hh' := hi.le_toInt
  have e : (lo &&& hi).toInt + (lo ^^^ hi).toInt / 2 = (lo.toInt + hi.toInt) / 2 := by omega
  unfold mid
  rw [BitVec.toInt_add, BitVec.toInt_sshiftRight, Int.shiftRight_eq_div_pow]
  show Int.bmod ((lo &&& hi).toInt + (lo ^^^ hi).toInt / 2) (2 ^ 32) = _
  rw [e]
  exact Int.bmod_eq_of_le (by norm_num at *; omega) (by norm_num at *; omega)

variable {n : ℕ}

/-! ## The first bisection -/

/-- How many keys are at least `p`. -/
def cntGe (κ : Fin n → BitVec 32) (p : ℤ) : ℕ := (Finset.univ.filter fun j => p ≤ (κ j).toInt).card

theorem cntGe_anti (κ : Fin n → BitVec 32) {p q : ℤ} (h : p ≤ q) : cntGe κ q ≤ cntGe κ p :=
  Finset.card_le_card fun j hj => by
    simp only [Finset.mem_filter, Finset.mem_univ, true_and] at *
    exact le_trans h hj

/-- One step for one row: the middle replaces the end on its side. -/
def halve (K : ℕ) (κ : Fin n → BitVec 32) (p : BitVec 32 × BitVec 32) : BitVec 32 × BitVec 32 :=
  if K ≤ cntGe κ (mid p.1 p.2).toInt then (mid p.1 p.2, p.2) else (p.1, mid p.1 p.2)

/-- The lower end is passed by `K` keys or more, the upper by fewer, and they are at most `w` apart. -/
structure Bracket (K : ℕ) (κ : Fin n → BitVec 32) (w : ℤ) (p : BitVec 32 × BitVec 32) : Prop where
  lt : p.1.toInt < p.2.toInt
  many : K ≤ cntGe κ p.1.toInt
  few : cntGe κ p.2.toInt < K
  width : p.2.toInt - p.1.toInt ≤ w

theorem Bracket.halve {K : ℕ} {κ : Fin n → BitVec 32} {w : ℤ} {p : BitVec 32 × BitVec 32} (h : Bracket K κ (2 * w) p) :
    Bracket K κ w (halve K κ p) := by
  have hm := mid_toInt p.1 p.2
  have h1 := h.lt
  have h4 := h.width
  unfold Knn.halve
  split
  · rename_i hk
    exact ⟨by show (mid p.1 p.2).toInt < p.2.toInt; omega, hk, h.few, by show p.2.toInt - (mid p.1 p.2).toInt ≤ w; omega⟩
  · rename_i hk
    have hne : (mid p.1 p.2).toInt ≠ p.1.toInt := fun e => hk (by rw [e]; exact h.many)
    exact ⟨by show p.1.toInt < (mid p.1 p.2).toInt; omega, h.many, by show cntGe κ (mid p.1 p.2).toInt < K; omega, by show (mid p.1 p.2).toInt - p.1.toInt ≤ w; omega⟩

/-- A bracket that is closed is one at every width. -/
theorem Bracket.closed {K : ℕ} {κ : Fin n → BitVec 32} {w w' : ℤ} {p : BitVec 32 × BitVec 32} (h : Bracket K κ w p)
    (hc : p.2.toInt ≤ p.1.toInt + 1) (hw : 1 ≤ w') : Bracket K κ w' p :=
  ⟨h.lt, h.many, h.few, by have := h.width; omega⟩

/-! ## The second bisection -/

/-- How many of the positions marked by `q` are at most `c`. -/
def cntLe (q : Fin n → Prop) [DecidablePred q] (c : ℤ) : ℕ := (Finset.univ.filter fun j => q j ∧ (j.val : ℤ) ≤ c).card

/-- The lower end has fewer than `m` marked positions before it, the upper end at least `m` up to it; they are less than `w` apart. -/
structure Place (m : ℤ) (q : Fin n → Prop) [DecidablePred q] (w : ℤ) (p : BitVec 32 × BitVec 32) : Prop where
  nonneg : 0 ≤ p.1.toInt
  le : p.1.toInt ≤ p.2.toInt
  bound : p.2.toInt < n
  few : (cntLe q (p.1.toInt - 1) : ℤ) < m
  many : m ≤ cntLe q p.2.toInt
  width : p.2.toInt - p.1.toInt < w

/-- One step for one row. -/
def place (m : ℤ) (q : Fin n → Prop) [DecidablePred q] (p : BitVec 32 × BitVec 32) : BitVec 32 × BitVec 32 :=
  if m ≤ cntLe q ((p.1 + p.2).sshiftRight 1).toInt then (p.1, (p.1 + p.2).sshiftRight 1) else ((p.1 + p.2).sshiftRight 1 + 1#32, p.2)

theorem Place.step {m : ℤ} {q : Fin n → Prop} [DecidablePred q] {w : ℤ} {p : BitVec 32 × BitVec 32} (hn : n ≤ 2 ^ 20)
    (h : Place m q (2 * w) p) : Place m q w (place m q p) := by
  have h0 := h.nonneg
  have h1 := h.le
  have h2 := h.bound
  have h5 := h.width
  have hm : ((p.1 + p.2).sshiftRight 1).toInt = (p.1.toInt + p.2.toInt) / 2 := by
    rw [BitVec.toInt_sshiftRight, Int.shiftRight_eq_div_pow, BitVec.toInt_add,
      Int.bmod_eq_of_le (by norm_num; omega) (by norm_num at *; omega)]
    norm_num
  have hm1 : ((p.1 + p.2).sshiftRight 1 + 1#32).toInt = (p.1.toInt + p.2.toInt) / 2 + 1 := by
    rw [BitVec.toInt_add, hm, show (1#32).toInt = 1 by decide]
    exact Int.bmod_eq_of_le (by norm_num; omega) (by norm_num at *; omega)
  unfold place
  split
  · rename_i hk
    exact ⟨h0, by show p.1.toInt ≤ ((p.1 + p.2).sshiftRight 1).toInt; omega, by show ((p.1 + p.2).sshiftRight 1).toInt < n; omega, h.few, hk,
      by show ((p.1 + p.2).sshiftRight 1).toInt - p.1.toInt < w; omega⟩
  · rename_i hk
    have hlt : p.1.toInt < p.2.toInt := by
      rcases lt_or_eq_of_le h1 with h' | h'
      · exact h'
      · exfalso
        apply hk
        have : ((p.1 + p.2).sshiftRight 1).toInt = p.2.toInt := by omega
        rw [this]; exact h.many
    refine ⟨?_, ?_, h2, ?_, h.many, ?_⟩
    · show 0 ≤ ((p.1 + p.2).sshiftRight 1 + 1#32).toInt; omega
    · show ((p.1 + p.2).sshiftRight 1 + 1#32).toInt ≤ p.2.toInt; omega
    · show (cntLe q (((p.1 + p.2).sshiftRight 1 + 1#32).toInt - 1) : ℤ) < m
      rw [hm1, show (p.1.toInt + p.2.toInt) / 2 + 1 - 1 = ((p.1 + p.2).sshiftRight 1).toInt by omega]
      omega
    · show p.2.toInt - ((p.1 + p.2).sshiftRight 1 + 1#32).toInt < w; omega

/-! ## The place in the sort -/

/-- A closed bracket and a closed place are the sort's place `K - 1`: the key there is the lower end, the position the place. -/
theorem src_of_bisect {K : ℕ} (k : Fin n) (hK : k.val + 1 = K) (κ : Fin n → BitVec 32) (p r : BitVec 32 × BitVec 32)
    (hp : Bracket K κ 1 p) (hr : Place ((K : ℤ) - cntGe κ (p.1.toInt + 1)) (fun j => κ j = p.1) 1 r) :
    ∃ c : Fin n, src (fun j => (κ j).toInt) k = c ∧ κ c = p.1 ∧ (c.val : ℤ) = r.1.toInt := by
  have hlt := hp.lt
  have hw := hp.width
  have hclose : p.2.toInt = p.1.toInt + 1 := by omega
  have hfew := hp.few
  rw [hclose] at hfew
  have e : r.2.toInt = r.1.toInt := by have := hr.le; have := hr.width; omega
  have hbound := hr.bound
  have hpos := hr.nonneg
  have hmany := hr.many
  have hfew2 := hr.few
  rw [e] at hmany hbound
  obtain ⟨c, hc⟩ : ∃ c : Fin n, (c.val : ℤ) = r.1.toInt := ⟨⟨r.1.toInt.toNat, by omega⟩, by show ((r.1.toInt.toNat : ℕ) : ℤ) = _; omega⟩
  rw [← hc] at hmany hfew2
  -- the marked positions up to c are those before c and perhaps c
  have hsub : (Finset.univ.filter fun j : Fin n => κ j = p.1 ∧ (j.val : ℤ) ≤ c.val)
      = (Finset.univ.filter fun j : Fin n => κ j = p.1 ∧ (j.val : ℤ) ≤ c.val - 1) ∪ (Finset.univ.filter fun j : Fin n => κ j = p.1 ∧ j = c) := by
    ext j
    simp only [Finset.mem_filter, Finset.mem_univ, true_and, Finset.mem_union]
    constructor
    · rintro ⟨h1, h2⟩
      by_cases hj : j = c
      · exact Or.inr ⟨h1, hj⟩
      · refine Or.inl ⟨h1, ?_⟩
        have : j.val ≠ c.val := fun h => hj (Fin.ext h)
        omega
    · rintro (⟨h1, h2⟩ | ⟨h1, h2⟩)
      · exact ⟨h1, by omega⟩
      · exact ⟨h1, by rw [h2]⟩
  have hkc : κ c = p.1 := by
    by_contra hne
    have hempty : (Finset.univ.filter fun j : Fin n => κ j = p.1 ∧ j = c) = ∅ := by
      ext j
      simp only [Finset.mem_filter, Finset.mem_univ, true_and, Finset.notMem_empty, iff_false]
      rintro ⟨h1, rfl⟩
      exact hne h1
    rw [hempty, Finset.union_empty] at hsub
    have : cntLe (fun j => κ j = p.1) (c.val : ℤ) = cntLe (fun j => κ j = p.1) ((c.val : ℤ) - 1) := congrArg Finset.card hsub
    omega
  have hcount : cntLe (fun j => κ j = p.1) (c.val : ℤ) ≤ cntLe (fun j => κ j = p.1) ((c.val : ℤ) - 1) + 1 := by
    have hone : (Finset.univ.filter fun j : Fin n => κ j = p.1 ∧ j = c).card ≤ 1 :=
      Finset.card_le_one.2 fun a ha b hb => by
        simp only [Finset.mem_filter, Finset.mem_univ, true_and] at ha hb
        rw [ha.2, hb.2]
    have := Finset.card_union_le (Finset.univ.filter fun j : Fin n => κ j = p.1 ∧ (j.val : ℤ) ≤ c.val - 1) (Finset.univ.filter fun j : Fin n => κ j = p.1 ∧ j = c)
    rw [← hsub] at this
    have e1 : cntLe (fun j => κ j = p.1) (c.val : ℤ) = (Finset.univ.filter fun j : Fin n => κ j = p.1 ∧ (j.val : ℤ) ≤ c.val).card := rfl
    have e2 : cntLe (fun j => κ j = p.1) ((c.val : ℤ) - 1) = (Finset.univ.filter fun j : Fin n => κ j = p.1 ∧ (j.val : ℤ) ≤ c.val - 1).card := rfl
    rw [e1, e2]
    omega
  refine ⟨c, src_eq_of_card _ k c ?_, hkc, hc⟩
  have hsplit : (Finset.univ.filter fun i : Fin n => bef (fun j => (κ j).toInt) i c = true)
      = (Finset.univ.filter fun i : Fin n => p.1.toInt + 1 ≤ (κ i).toInt) ∪ (Finset.univ.filter fun i : Fin n => κ i = p.1 ∧ (i.val : ℤ) ≤ c.val - 1) := by
    ext i
    simp only [Finset.mem_filter, Finset.mem_univ, true_and, Finset.mem_union, bef_iff, hkc]
    constructor
    · rintro (h | ⟨h, h'⟩)
      · exact Or.inl (by omega)
      · exact Or.inr ⟨BitVec.eq_of_toInt_eq h, by have : i.val < c.val := h'; omega⟩
    · rintro (h | ⟨h, h'⟩)
      · exact Or.inl (by omega)
      · exact Or.inr ⟨congrArg BitVec.toInt h, by show i.val < c.val; omega⟩
  have hdisj : Disjoint (Finset.univ.filter fun i : Fin n => p.1.toInt + 1 ≤ (κ i).toInt) (Finset.univ.filter fun i : Fin n => κ i = p.1 ∧ (i.val : ℤ) ≤ c.val - 1) := by
    rw [Finset.disjoint_left]
    intro i hi hi'
    simp only [Finset.mem_filter, Finset.mem_univ, true_and] at hi hi'
    rw [hi'.1] at hi
    omega
  rw [hsplit, Finset.card_union_of_disjoint hdisj]
  have e1 : (Finset.univ.filter fun i : Fin n => p.1.toInt + 1 ≤ (κ i).toInt).card = cntGe κ (p.1.toInt + 1) := rfl
  have e2 : (Finset.univ.filter fun i : Fin n => κ i = p.1 ∧ (i.val : ℤ) ≤ c.val - 1).card = cntLe (fun j => κ j = p.1) ((c.val : ℤ) - 1) := rfl
  rw [e1, e2]
  omega

end Knn
-- ==== Proof.SelRows.lean ====
/-
  The selection kernel's vector operations read one row at a time: sums of bits are counts, minima and maxima bound the row's
  words, and a trip of either bisection is one step of it in every row.
-/
module

public import proofs.«01_k».proof.Proof.SelRun
public import proofs.«01_k».proof.Proof.Bisect
public import Idealize.ShloMosaic.Lib.Pointwise
public import Idealize.ShloMosaic.Lib.NatWords
public import Idealize.ShloMosaic.Lib.NatWordsOrder
public import Idealize.ShloMosaic.Lib.SortNet.Extract
public import Idealize.ShloMosaic.Lib.SortKey

@[expose] public section

set_option maxRecDepth 16384

noncomputable section

namespace Knn

open Idealize.ShloMosaic Idealize.ShloMosaic.Bits

variable {R C : ℕ}

/-! ## Reductions of a row -/

/-- The sum along the columns of bits made floats is the count of the set ones. -/
theorem count_row (hC : C < 2 ^ 24) (h : (⟨2, ![R, C]⟩ : Shape).Reduces [1] ⟨1, ![R]⟩) (b : IVec ⟨2, ![R, C]⟩ 1) (hw : 1 < 32) (a : Fin R) :
    multiReduction (F := Bits) .add [1] ⟨1, ![R]⟩ (sitofp .f32 (extui 32 b hw)) 0x00000000#32 h (.inl rfl) rfl (ix1 a)
      = f32OfNat (Finset.univ.filter fun k : Fin C => b (ix2 a k) = 1#1).card := by
  have hval : ∀ i, (sitofp (F := Bits) .f32 (extui 32 b hw)) i = f32OfNat (if b i = 1#1 then 1 else 0) := by
    intro i
    show sitofp32 ((b i).setWidth 32) = _
    rcases BitVec.eq_zero_or_eq_one (b i) with e | e <;> rw [e]
    · exact sitofp32_ofNat (n := 0) (by norm_num)
    · exact sitofp32_ofNat (n := 1) (by norm_num)
  have hsum : (reduceFiber h (ix1 a)).sum (fun i => if b i = 1#1 then 1 else 0) = (Finset.univ.filter fun k : Fin C => b (ix2 a k) = 1#1).card := by
    rw [Finset.card_filter]
    exact h.sum_fiber_r2_a1 (ix1 a) (fun i => if b i = 1#1 then 1 else 0)
  have hle : (Finset.univ.filter fun k : Fin C => b (ix2 a k) = 1#1).card ≤ C := by
    have := Finset.card_filter_le (Finset.univ : Finset (Fin C)) fun k => b (ix2 a k) = 1#1
    rwa [Finset.card_univ, Fintype.card_fin] at this
  rw [multiReduction_add_nat [1] h _ (ix1 a) (fun i => if b i = 1#1 then 1 else 0) (fun i _ => by
    rw [hval i]; exact natOfF32?_f32OfNat _ (by split <;> norm_num)) (by rw [hsum]; omega), hsum]

theorem card_rows {p q : Fin C → Prop} [DecidablePred p] [DecidablePred q] (h : ∀ k, p k ↔ q k) :
    (Finset.univ.filter p).card = (Finset.univ.filter q).card := by
  congr 1; ext k; simp only [Finset.mem_filter, Finset.mem_univ, true_and, h k]

/-- A fold of the signed minimum over a set is at most every word met. -/
theorem fold_minsi_le {ι : Type} [DecidableEq ι] (g : ι → BitVec 32) (z : BitVec 32) (s : Finset ι) (i : ι) (hi : i ∈ s) :
    (s.fold IntOp.minsi z g).toInt ≤ (g i).toInt := by
  obtain ⟨t, ht, rfl⟩ : ∃ t : Finset ι, i ∉ t ∧ insert i t = s := ⟨s.erase i, Finset.notMem_erase i s, Finset.insert_erase hi⟩
  rw [Finset.fold_insert ht, SortNet.toInt_minsi]
  exact min_le_left _ _

/-- The signed minimum along the columns is at most every word of the row. -/
theorem min_row (h : (⟨2, ![R, C]⟩ : Shape).Reduces [1] ⟨1, ![R]⟩) (x : IVec ⟨2, ![R, C]⟩ 32) (a : Fin R) (k : Fin C) :
    (multiReductionI .minsi [1] ⟨1, ![R]⟩ x 2147483647#32 h rfl (ix1 a)).toInt ≤ (x (ix2 a k)).toInt := by
  rw [show multiReductionI .minsi [1] ⟨1, ![R]⟩ x 2147483647#32 h rfl (ix1 a)
      = Finset.univ.fold IntOp.minsi 2147483647#32 fun k : Fin C => x (ix2 a k) from
    (multiReductionI_eq_fold .minsi x 2147483647#32 h rfl (ix1 a)).trans (h.fold_fiber_r2_a1 (ix1 a) IntOp.minsi _ x)]
  exact fold_minsi_le _ _ _ k (Finset.mem_univ k)

/-- The signed maximum along the columns is at least every word of the row, and is one of them. -/
theorem max_row (hC : 0 < C) (h : (⟨2, ![R, C]⟩ : Shape).Reduces [1] ⟨1, ![R]⟩) (x : IVec ⟨2, ![R, C]⟩ 32) (a : Fin R) :
    (∀ k, (x (ix2 a k)).toInt ≤ (multiReductionI .maxsi [1] ⟨1, ![R]⟩ x 2147483648#32 h rfl (ix1 a)).toInt)
      ∧ ∃ k, multiReductionI .maxsi [1] ⟨1, ![R]⟩ x 2147483648#32 h rfl (ix1 a) = x (ix2 a k) := by
  have e : multiReductionI .maxsi [1] ⟨1, ![R]⟩ x 2147483648#32 h rfl (ix1 a)
      = Finset.univ.fold IntOp.maxsi 2147483648#32 fun k : Fin C => x (ix2 a k) :=
    (multiReductionI_eq_fold .maxsi x 2147483648#32 h rfl (ix1 a)).trans (h.fold_fiber_r2_a1 (ix1 a) IntOp.maxsi _ x)
  obtain ⟨-, h2, h3⟩ := SortNet.fold_maxsi_spec (fun k : Fin C => x (ix2 a k)) Finset.univ 2147483648#32
  rw [e]
  refine ⟨fun k => h2 k (Finset.mem_univ k), ?_⟩
  rcases h3 with h3 | ⟨k, -, h3⟩
  · refine ⟨⟨0, hC⟩, BitVec.eq_of_toInt_eq (le_antisymm ?_ ?_)⟩
    · rw [h3]; exact SortNet.intMin_toInt_le _
    · exact h2 _ (Finset.mem_univ _)
  · exact ⟨k, h3⟩

end Knn

namespace Cert.Select.Knn

open Cert.Select Cert.Select.Gen Idealize.ShloMosaic Idealize.ShloMosaic.Bits _root_.Knn

/-! ## The kernel's payloads at a row -/

variable (v11 : IVec S200x10000 32) (lo hi : IVec S200x1 32) (a : Fin 200)

/-- The keys of a row. -/
abbrev rowOf (v11 : IVec S200x10000 32) (a : Fin 200) : Fin 10000 → BitVec 32 := fun k => v11 (ix2 a k)

/-- The pair of words of a row. -/
abbrev pairOf (p : IVec S200x1 32 × IVec S200x1 32) (a : Fin 200) : BitVec 32 × BitVec 32 := (p.1 (ix2 a 0), p.2 (ix2 a 0))

theorem col_cast {α : Type} (x : S200.Idx → α) : shapeCast S200x1 x shapeCasts_S200_S200x1 (ix2 a 0) = x (ix1 a) := by
  pointwise

theorem extract_one {α : Type} (x : S1.Idx → α) : extractAt ![0, 0, 0] (shapeCast S1x1x1 x shapeCasts_S1_S1x1x1) inpos_S1x1x1_p0_0_0 = x (ix1 0) := by
  show shapeCast S1x1x1 x shapeCasts_S1_S1x1x1 (ix3 0 0 0) = _
  pointwise

theorem pay9_eq {F : FTy → Type} [BitOps F] : k0_pay9 (F := F) lo hi = multiReduction .maximumf [1, 2] S1
    (shapeCast S1x200x1 (select (cmpi .sgt hi (addi lo (broadcast S200x1 1#32))) (broadcast S200x1 (Scalar.ofBits (F := F) .f32 0x3F800000#32))
      (broadcast S200x1 (Scalar.ofBits (F := F) .f32 0x00000000#32))) shapeCasts_S200x1_S1x200x1) 0xFF800000#32 reduces_S1x200x1_S1 (.inl rfl) rfl (ix1 0) := by
  show extractAt ![0, 0, 0] (shapeCast S1x1x1 (multiReduction .maximumf [1, 2] S1
    (shapeCast S1x200x1 (select (cmpi .sgt hi (addi lo (broadcast S200x1 1#32))) (broadcast S200x1 (Scalar.ofBits (F := F) .f32 0x3F800000#32))
      (broadcast S200x1 (Scalar.ofBits (F := F) .f32 0x00000000#32))) shapeCasts_S200x1_S1x200x1) 0xFF800000#32 reduces_S1x200x1_S1 (.inl rfl) rfl) shapeCasts_S1_S1x1x1) inpos_S1x1x1_p0_0_0 = _
  exact extract_one _

theorem spread {α : Type} (x : S200x1.Idx → α) (k : Fin 10000) : broadcastTo S200x10000 x broadcasts_S200x1_S200x10000 (ix2 a k) = x (ix2 a 0) := by
  pointwise

theorem pay10_row : k0_pay10 lo hi (ix2 a 0) = mid (lo (ix2 a 0)) (hi (ix2 a 0)) := rfl

theorem thirty : (0x41F00000#32 : BitVec 32) = f32OfNat 30 := by
  rw [f32OfNat_eq 30 (by norm_num)]; decide

theorem ofBool_one (b : Bool) : BitVec.ofBool b = 1#1 ↔ b = true := by cases b <;> decide

theorem pay11_row : k0_pay11 (F := Bits) v11 lo hi (ix2 a 0)
    = BitVec.ofBool (decide (30 ≤ cntGe (rowOf v11 a) (mid (lo (ix2 a 0)) (hi (ix2 a 0))).toInt)) := by
  have hc := count_row (R := 200) (C := 10000) (by norm_num) reduces_S200x10000_S200
    (cmpi .sge v11 (broadcastTo S200x10000 (k0_pay10 lo hi) broadcasts_S200x1_S200x10000)) natLt_1_32 a
  have he : (Finset.univ.filter fun k : Fin 10000 => cmpi .sge v11 (broadcastTo S200x10000 (k0_pay10 lo hi) broadcasts_S200x1_S200x10000) (ix2 a k) = 1#1).card
      = cntGe (rowOf v11 a) (mid (lo (ix2 a 0)) (hi (ix2 a 0))).toInt := card_rows fun k => by
    show IntOp.cmpi .sge (v11 (ix2 a k)) (broadcastTo S200x10000 (k0_pay10 lo hi) broadcasts_S200x1_S200x10000 (ix2 a k)) = 1#1 ↔ _
    rw [spread, pay10_row]
    show BitVec.ofBool ((mid (lo (ix2 a 0)) (hi (ix2 a 0))).sle (v11 (ix2 a k))) = 1#1 ↔ _
    rw [ofBool_one, BitVec.sle_iff_toInt_le]
  have hle : cntGe (rowOf v11 a) (mid (lo (ix2 a 0)) (hi (ix2 a 0))).toInt ≤ 10000 :=
    (Finset.card_filter_le _ _).trans (by rw [Finset.card_univ, Fintype.card_fin])
  show cmpf32 .oge (shapeCast S200x1 (multiReduction (F := Bits) .add [1] S200 _ _ reduces_S200x10000_S200 (.inl rfl) rfl) shapeCasts_S200_S200x1 (ix2 a 0)) (0x41F00000#32) = _
  rw [col_cast]
  refine (congrArg (fun z => cmpf32 .oge z (0x41F00000#32)) (hc.trans (congrArg f32OfNat he))).trans ?_
  rw [thirty, cmpf32_oge_nat (by omega) (by norm_num)]

theorem trip_row (h : Scalar.cmpi .ne (wide (F := Bits) lo hi) 0#32 = 1#1) :
    pairOf (trip (F := Bits) v11 (lo, hi)) a = halve 30 (rowOf v11 a) (pairOf (lo, hi) a) := by
  unfold trip
  rw [if_pos h]
  show (Scalar.select (k0_pay11 (F := Bits) v11 lo hi (ix2 a 0)) (k0_pay10 lo hi (ix2 a 0)) (lo (ix2 a 0)),
    Scalar.select (k0_pay11 (F := Bits) v11 lo hi (ix2 a 0)) (hi (ix2 a 0)) (k0_pay10 lo hi (ix2 a 0))) = _
  rw [pay11_row, pay10_row]
  unfold halve
  by_cases hk : 30 ≤ cntGe (rowOf v11 a) (mid (lo (ix2 a 0)) (hi (ix2 a 0))).toInt
  · rw [decide_eq_true hk, if_pos hk]; rfl
  · rw [decide_eq_false hk, if_neg hk]; rfl

theorem one_nat : (0x3F800000#32 : BitVec 32) = f32OfNat 1 := by
  rw [f32OfNat_eq 1 (by norm_num)]; decide

/-- Where the trip's condition does not hold, no row's interval is wider than one. -/
theorem closed_row (h : ¬ Scalar.cmpi .ne (wide (F := Bits) lo hi) 0#32 = 1#1) : ¬ (lo (ix2 a 0) + 1#32).toInt < (hi (ix2 a 0)).toInt := by
  intro hlt
  apply h
  let w : S200x1.Idx → ℕ := fun y => if IntOp.cmpi .sgt (hi y) (lo y + 1#32) = 1#1 then 1 else 0
  have hw : ∀ y, Scalar.select (IntOp.cmpi .sgt (hi y) (lo y + 1#32)) (0x3F800000#32 : Bits .f32) (0x00000000#32 : Bits .f32) = f32OfNat (w y) := by
    intro y
    show Scalar.select (IntOp.cmpi .sgt (hi y) (lo y + 1#32)) _ _ = f32OfNat (if IntOp.cmpi .sgt (hi y) (lo y + 1#32) = 1#1 then 1 else 0)
    rcases BitVec.eq_zero_or_eq_one (IntOp.cmpi .sgt (hi y) (lo y + 1#32)) with e | e <;> rw [e]
    · exact f32OfNat_zero.symm
    · exact one_nat
  let q : S1x200x1.Idx → ℕ := shapeCast S1x200x1 w shapeCasts_S200x1_S1x200x1
  have hq : ∀ i, q i ≤ 1 := fun i => by
    show (if _ then 1 else 0) ≤ 1
    split <;> norm_num
  have hqa : q (ix3 0 a 0) = 1 := by
    have e : q (ix3 0 a 0) = w (ix2 a 0) := by
      show shapeCast S1x200x1 w shapeCasts_S200x1_S1x200x1 (ix3 0 a 0) = _
      pointwise
    rw [e]
    exact if_pos ((ofBool_one _).2 (BitVec.slt_iff_toInt_lt.2 hlt))
  have hmem : ix3 0 a 0 ∈ reduceFiber reduces_S1x200x1_S1 (ix1 0) := Finset.mem_filter.2 ⟨Finset.mem_univ _, funext fun b => match b with
    | ⟨0, _⟩ => Subsingleton.elim (α := Fin 1) _ _⟩
  have hsrc : shapeCast S1x200x1 (select (cmpi .sgt hi (addi lo (broadcast S200x1 1#32))) (broadcast S200x1 (Scalar.ofBits (F := Bits) .f32 0x3F800000#32))
      (broadcast S200x1 (Scalar.ofBits (F := Bits) .f32 0x00000000#32))) shapeCasts_S200x1_S1x200x1 = fun i => f32OfNat (q i) := funext fun i => hw _
  have h9 : k0_pay9 (F := Bits) lo hi = f32OfNat ((reduceFiber reduces_S1x200x1_S1 (ix1 0)).fold max 0 q) := by
    have e : multiReduction (F := Bits) .maximumf [1, 2] S1 (fun i => f32OfNat (q i)) 0xFF800000#32 reduces_S1x200x1_S1 (.inl rfl) rfl (ix1 0)
        = f32OfNat ((reduceFiber reduces_S1x200x1_S1 (ix1 0)).fold max 0 q) :=
      (multiReduction_maximumf_eq_fold _ _ _ _ _ _).trans
        (fold_maximumf_negativeInfinity_nat _ ⟨ix3 0 a 0, hmem⟩ q fun i _ => (hq i).trans (by norm_num))
    refine Eq.trans ?_ e
    rw [pay9_eq, hsrc]
  obtain ⟨-, h2, h3⟩ := fold_max_spec (reduceFiber reduces_S1x200x1_S1 (ix1 0)) q 0
  have hge := h2 _ hmem
  rw [hqa] at hge
  have hlt : (reduceFiber reduces_S1x200x1_S1 (ix1 0)).fold max 0 q < 2 ^ 24 := by
    rcases h3 with h3 | ⟨i, -, h3⟩
    · rw [h3]; norm_num
    · rw [h3]; exact lt_of_le_of_lt (hq i) (by norm_num)
  unfold wide
  rw [h9]
  show IntOp.cmpi .ne (BitVec.setWidth 32 (cmpf32 .ogt (f32OfNat ((reduceFiber reduces_S1x200x1_S1 (ix1 0)).fold max 0 q)) (ofBits .f32 0x00000000#32))) 0#32 = 1#1
  rw [← f32OfNat_zero, cmpf32_ogt_nat hlt (by norm_num), decide_eq_true (by omega : 0 < (reduceFiber reduces_S1x200x1_S1 (ix1 0)).fold max 0 q)]
  decide

end Cert.Select.Knn

end
-- ==== Proof.SelValue.lean ====
/-
  What the two bisections end with in a row: the word and the column of the thirtieth place of the row's stable sort, its keys
  greatest first.
-/
module

public import proofs.«01_k».proof.Proof.SelRows

@[expose] public section

set_option maxRecDepth 16384

noncomputable section

namespace Cert.Select.Knn

open Cert.Select Cert.Select.Gen Idealize.ShloMosaic Idealize.ShloMosaic.Bits _root_.Knn

variable (v11 : IVec S200x10000 32) (a : Fin 200)

/-! ## The first bisection -/

/-- A property kept by every step of a fold, counted in steps. -/
theorem foldl_steps {ι σ : Type} (g : σ → σ) (P : ℕ → σ → Prop) (hs : ∀ k s, P k s → P (k + 1) (g s)) :
    ∀ (l : List ι) (k : ℕ) (s : σ), P k s → P (k + l.length) (l.foldl (fun acc _ => g acc) s)
  | [], _, _, h => h
  | _ :: l, k, s, h => by
    have := foldl_steps g P hs l (k + 1) (g s) (hs k s h)
    rwa [show k + 1 + l.length = k + (l.length + 1) by omega] at this

theorem fold_steps {n : ℕ} {σ : Type} (g : σ → σ) (P : ℕ → σ → Prop) (hs : ∀ k s, P k s → P (k + 1) (g s)) (s : σ) (h : P 0 s) :
    P n (Scf.fold (n := n) (fun _ p => g p) s) := by
  have := foldl_steps g P hs (List.finRange n) 0 s h
  rw [List.length_finRange, Nat.zero_add] at this
  rwa [Scf.fold_eq]

theorem pairOf_mk (x y : IVec S200x1 32) : pairOf (x, y) a = (x (ix2 a 0), y (ix2 a 0)) := rfl

theorem bracket_of_bounds (κ : Fin 10000 → BitVec 32) (u v : BitVec 32) (h1 : ∀ k, u.toInt ≤ (κ k).toInt) (h2 : ∀ k, (κ k).toInt < v.toInt) :
    Bracket 30 κ (2 ^ 32) (u, v) := by
  refine ⟨lt_of_le_of_lt (h1 0) (h2 0), ?_, ?_, ?_⟩
  · show 30 ≤ cntGe κ u.toInt
    unfold cntGe
    rw [Finset.filter_true_of_mem fun k _ => h1 k, Finset.card_univ, Fintype.card_fin]
    norm_num
  · show cntGe κ v.toInt < 30
    unfold cntGe
    rw [Finset.filter_false_of_mem fun k _ => not_le.2 (h2 k), Finset.card_empty]
    norm_num
  · show v.toInt - u.toInt ≤ 2 ^ 32
    have := v.toInt_lt
    have := u.le_toInt
    norm_num at *
    omega

theorem first_bracket (hv : ∀ k, (rowOf v11 a k).toInt < 2 ^ 31 - 1) :
    Bracket 30 (rowOf v11 a) (2 ^ 32) (pairOf (k0_pay7 (F := Bits) v11, k0_pay8 (F := Bits) v11) a) := by
  have hmin := fun k => min_row reduces_S200x10000_S200 v11 a k
  obtain ⟨hmax, c, hc⟩ := max_row (by norm_num) reduces_S200x10000_S200 v11 a
  have e1 : k0_pay7 (F := Bits) v11 (ix2 a 0) = multiReductionI .minsi [1] S200 v11 2147483647#32 reduces_S200x10000_S200 rfl (ix1 a) :=
    col_cast a (multiReductionI .minsi [1] S200 v11 2147483647#32 reduces_S200x10000_S200 rfl)
  have e2 : k0_pay8 (F := Bits) v11 (ix2 a 0) = rowOf v11 a c + 1#32 :=
    congrArg (· + 1#32) ((col_cast a (multiReductionI .maxsi [1] S200 v11 2147483648#32 reduces_S200x10000_S200 rfl)).trans hc)
  have e2' : (k0_pay8 (F := Bits) v11 (ix2 a 0)).toInt = (rowOf v11 a c).toInt + 1 := by
    have := hv c
    have := (rowOf v11 a c).le_toInt
    rw [e2, BitVec.toInt_add, show (1#32).toInt = 1 by decide]
    exact Int.bmod_eq_of_le (by norm_num at *; omega) (by norm_num at *; omega)
  have h1 : ∀ k, (k0_pay7 (F := Bits) v11 (ix2 a 0)).toInt ≤ (rowOf v11 a k).toInt := fun k => by rw [e1]; exact hmin k
  have h2 : ∀ k, (rowOf v11 a k).toInt < (k0_pay8 (F := Bits) v11 (ix2 a 0)).toInt := fun k => by
    have := hmax k
    rw [show multiReductionI .maxsi [1] ⟨1, ![200]⟩ v11 2147483648#32 reduces_S200x10000_S200 rfl (ix1 a) = rowOf v11 a c from hc] at this
    rw [e2']
    exact Int.lt_add_one_of_le this
  rw [pairOf_mk]
  exact bracket_of_bounds _ _ _ h1 h2

/-- The bracket after the first bisection is closed. -/
theorem fin1_bracket (hv : ∀ k, (rowOf v11 a k).toInt < 2 ^ 31 - 1) : Bracket 30 (rowOf v11 a) 1 (pairOf (fin1 (F := Bits) v11) a) := by
  have h := fold_steps (n := k0_t1_loop.trips) (trip (F := Bits) v11)
    (fun k p => k ≤ 32 → Bracket 30 (rowOf v11 a) (2 ^ (32 - k)) (pairOf p a)) (fun k p hp hk => by
      have hb := hp (by omega)
      rw [show 32 - k = (32 - (k + 1)) + 1 by omega, pow_succ, mul_comm] at hb
      by_cases hc : Scalar.cmpi .ne (wide (F := Bits) p.1 p.2) 0#32 = 1#1
      · rw [trip_row v11 p.1 p.2 a hc]
        exact hb.halve
      · rw [show trip (F := Bits) v11 p = p from if_neg hc]
        have hcl := closed_row p.1 p.2 a hc
        have hlt := hb.lt
        have hhi := (p.2 (ix2 a 0)).toInt_lt
        have hlo := (p.1 (ix2 a 0)).le_toInt
        have hadd : (p.1 (ix2 a 0) + 1#32).toInt = (p.1 (ix2 a 0)).toInt + 1 := by
          rw [BitVec.toInt_add, show (1#32).toInt = 1 by decide]
          exact Int.bmod_eq_of_le (by norm_num at *; omega) (by norm_num at *; omega)
        rw [hadd] at hcl
        exact hb.closed (not_lt.1 hcl) (one_le_pow₀ (by norm_num))) _ (fun _ => first_bracket v11 a hv)
  rw [show k0_t1_loop.trips = 32 by decide +kernel] at h
  exact h le_rfl

/-! ## The second bisection -/

/-- How many more the thirty want after the keys above the thirtieth. -/
theorem pay14_row (k30 : IVec S200x1 32) (hk : cntGe (rowOf v11 a) ((k30 (ix2 a 0)).toInt + 1) < 30) :
    k0_pay14 (F := Bits) v11 k30 (ix2 a 0) = f32OfNat (30 - cntGe (rowOf v11 a) ((k30 (ix2 a 0)).toInt + 1)) := by
  have hc := count_row (R := 200) (C := 10000) (by norm_num) reduces_S200x10000_S200
    (cmpi .sgt v11 (broadcastTo S200x10000 k30 broadcasts_S200x1_S200x10000)) natLt_1_32 a
  have he : (Finset.univ.filter fun k : Fin 10000 => cmpi .sgt v11 (broadcastTo S200x10000 k30 broadcasts_S200x1_S200x10000) (ix2 a k) = 1#1).card
      = cntGe (rowOf v11 a) ((k30 (ix2 a 0)).toInt + 1) := card_rows fun k => by
    show IntOp.cmpi .sgt (v11 (ix2 a k)) (broadcastTo S200x10000 k30 broadcasts_S200x1_S200x10000 (ix2 a k)) = 1#1 ↔ _
    rw [spread]
    show BitVec.ofBool ((k30 (ix2 a 0)).slt (v11 (ix2 a k))) = 1#1 ↔ _
    rw [ofBool_one, BitVec.slt_iff_toInt_lt, Int.lt_iff_add_one_le]
  show subf32 (0x41F00000#32) (shapeCast S200x1 (multiReduction (F := Bits) .add [1] S200 _ _ reduces_S200x10000_S200 (.inl rfl) rfl) shapeCasts_S200_S200x1 (ix2 a 0)) = _
  rw [col_cast]
  refine (congrArg (fun z => subf32 (0x41F00000#32) z) (hc.trans (congrArg f32OfNat he))).trans ?_
  rw [thirty, subf32_nat _ _ hk.le (by norm_num)]

/-- The column where the key is the thirtieth, past the last column elsewhere. -/
theorem pay15_row (k30 : IVec S200x1 32) (k : Fin 10000) :
    k0_pay15 (F := Bits) v11 k30 (ix2 a k) = if rowOf v11 a k = k30 (ix2 a 0) then BitVec.ofNat 32 k.val else 10000#32 := by
  show Scalar.select (IntOp.cmpi .eq (v11 (ix2 a k)) (broadcastTo S200x10000 k30 broadcasts_S200x1_S200x10000 (ix2 a k)))
    (iota .tc S200x10000 32 [1] iota_S200x10000_d1_w32 (ix2 a k)) 10000#32 = _
  rw [spread, show iota .tc S200x10000 32 [1] iota_S200x10000_d1_w32 (ix2 a k) = BitVec.ofNat 32 k.val by pointwise]
  by_cases h : v11 (ix2 a k) = k30 (ix2 a 0)
  · rw [if_pos h]
    show Scalar.select (BitVec.ofBool (v11 (ix2 a k) == k30 (ix2 a 0))) _ _ = _
    rw [h, beq_self_eq_true]; rfl
  · rw [if_neg h]
    show Scalar.select (BitVec.ofBool (v11 (ix2 a k) == k30 (ix2 a 0))) _ _ = _
    rw [beq_eq_false_iff_ne.2 h]; rfl

theorem ofNat_toInt {n : ℕ} (h : n < 2 ^ 31) : (BitVec.ofNat 32 n).toInt = n := by
  rw [BitVec.toInt_eq_toNat_cond, BitVec.toNat_ofNat, Nat.mod_eq_of_lt (by omega), if_pos (by omega)]

/-- The halved sum of two words of a row. -/
theorem pay1_row (lo hi : IVec S200x1 32) : k0_pay1 lo hi (ix2 a 0) = (lo (ix2 a 0) + hi (ix2 a 0)).sshiftRight 1 := rfl

/-- The second trip's comparison. -/
theorem pay2_row (k30 lo hi : IVec S200x1 32) (M : ℕ) (hM : M ≤ 30) (v27 : FVec Bits S200x1 .f32) (h27 : v27 (ix2 a 0) = f32OfNat M)
    (hmid : ((lo (ix2 a 0) + hi (ix2 a 0)).sshiftRight 1).toInt < 10000) :
    k0_pay2 (F := Bits) v27 (k0_pay15 (F := Bits) v11 k30) lo hi (ix2 a 0)
      = BitVec.ofBool (decide (M ≤ cntLe (fun j => rowOf v11 a j = k30 (ix2 a 0)) ((lo (ix2 a 0) + hi (ix2 a 0)).sshiftRight 1).toInt)) := by
  have hc := count_row (R := 200) (C := 10000) (by norm_num) reduces_S200x10000_S200
    (cmpi .sle (k0_pay15 (F := Bits) v11 k30) (broadcastTo S200x10000 (k0_pay1 lo hi) broadcasts_S200x1_S200x10000)) natLt_1_32 a
  have he : (Finset.univ.filter fun k : Fin 10000 => cmpi .sle (k0_pay15 (F := Bits) v11 k30) (broadcastTo S200x10000 (k0_pay1 lo hi) broadcasts_S200x1_S200x10000) (ix2 a k) = 1#1).card
      = cntLe (fun j => rowOf v11 a j = k30 (ix2 a 0)) ((lo (ix2 a 0) + hi (ix2 a 0)).sshiftRight 1).toInt := card_rows fun k => by
    show IntOp.cmpi .sle (k0_pay15 (F := Bits) v11 k30 (ix2 a k)) (broadcastTo S200x10000 (k0_pay1 lo hi) broadcasts_S200x1_S200x10000 (ix2 a k)) = 1#1 ↔ _
    rw [spread, pay1_row, pay15_row]
    show BitVec.ofBool (BitVec.sle _ _) = 1#1 ↔ _
    rw [ofBool_one, BitVec.sle_iff_toInt_le]
    by_cases h : rowOf v11 a k = k30 (ix2 a 0)
    · have hk := k.isLt
      rw [if_pos h, ofNat_toInt (by omega)]
      exact ⟨fun h' => ⟨h, h'⟩, fun h' => h'.2⟩
    · rw [if_neg h]
      refine ⟨fun h' => absurd h' ?_, fun h' => absurd h'.1 h⟩
      rw [show (10000#32).toInt = 10000 by decide]
      omega
  have hle : cntLe (fun j => rowOf v11 a j = k30 (ix2 a 0)) ((lo (ix2 a 0) + hi (ix2 a 0)).sshiftRight 1).toInt ≤ 10000 :=
    (Finset.card_filter_le _ _).trans (by rw [Finset.card_univ, Fintype.card_fin])
  show cmpf32 .oge (shapeCast S200x1 (multiReduction (F := Bits) .add [1] S200 _ _ reduces_S200x10000_S200 (.inl rfl) rfl) shapeCasts_S200_S200x1 (ix2 a 0)) (v27 (ix2 a 0)) = _
  rw [col_cast]
  refine (congrArg (fun z => cmpf32 .oge z (v27 (ix2 a 0))) (hc.trans (congrArg f32OfNat he))).trans ?_
  rw [h27, cmpf32_oge_nat (by omega) (by omega)]

/-- One trip of the second bisection in a row. -/
theorem place_row (k30 lo hi : IVec S200x1 32) (M : ℕ) (hM : M ≤ 30) (v27 : FVec Bits S200x1 .f32) (h27 : v27 (ix2 a 0) = f32OfNat M)
    (hmid : ((lo (ix2 a 0) + hi (ix2 a 0)).sshiftRight 1).toInt < 10000) :
    pairOf (k0_pay3 (F := Bits) v27 (k0_pay15 (F := Bits) v11 k30) lo hi, k0_pay4 (F := Bits) v27 (k0_pay15 (F := Bits) v11 k30) lo hi) a
      = place (M : ℤ) (fun j => rowOf v11 a j = k30 (ix2 a 0)) (pairOf (lo, hi) a) := by
  show (Scalar.select (k0_pay2 (F := Bits) v27 (k0_pay15 (F := Bits) v11 k30) lo hi (ix2 a 0)) (lo (ix2 a 0)) (k0_pay1 lo hi (ix2 a 0) + 1#32),
    Scalar.select (k0_pay2 (F := Bits) v27 (k0_pay15 (F := Bits) v11 k30) lo hi (ix2 a 0)) (k0_pay1 lo hi (ix2 a 0)) (hi (ix2 a 0))) = _
  rw [pay2_row v11 a k30 lo hi M hM v27 h27 hmid, pay1_row]
  unfold place
  by_cases hk : M ≤ cntLe (fun j => rowOf v11 a j = k30 (ix2 a 0)) ((lo (ix2 a 0) + hi (ix2 a 0)).sshiftRight 1).toInt
  · rw [decide_eq_true hk, if_pos (Int.ofNat_le.2 hk)]; rfl
  · rw [decide_eq_false hk, if_neg (fun h => hk (Int.ofNat_le.1 h))]; rfl

/-- The place before the second bisection: every column, the columns numbered from zero. -/
theorem first_place (κ : Fin 10000 → BitVec 32) (w : BitVec 32) (h1 : 30 ≤ cntGe κ w.toInt) (h2 : cntGe κ (w.toInt + 1) < 30) :
    Place ((30 : ℤ) - cntGe κ (w.toInt + 1)) (fun j => κ j = w) (2 ^ 14) (0#32, 9999#32) := by
  refine ⟨by decide, by decide, by show (9999#32).toInt < 10000; decide, ?_, ?_, by decide⟩
  · show ((cntLe (fun j => κ j = w) ((0#32).toInt - 1) : ℕ) : ℤ) < _
    unfold cntLe
    rw [Finset.filter_false_of_mem fun k _ h => absurd h.2 (by rw [show (0#32).toInt = 0 by decide]; omega), Finset.card_empty]
    omega
  · show _ ≤ ((cntLe (fun j => κ j = w) (9999#32).toInt : ℕ) : ℤ)
    have hsplit : (Finset.univ.filter fun j : Fin 10000 => w.toInt ≤ (κ j).toInt)
        = (Finset.univ.filter fun j : Fin 10000 => w.toInt + 1 ≤ (κ j).toInt) ∪ (Finset.univ.filter fun j : Fin 10000 => κ j = w ∧ (j.val : ℤ) ≤ (9999#32).toInt) := by
      ext j
      simp only [Finset.mem_filter, Finset.mem_univ, true_and, Finset.mem_union, show (9999#32).toInt = 9999 by decide]
      have hj := j.isLt
      constructor
      · intro h
        by_cases he : κ j = w
        · exact Or.inr ⟨he, by omega⟩
        · have : (κ j).toInt ≠ w.toInt := fun e => he (BitVec.eq_of_toInt_eq e)
          exact Or.inl (by omega)
      · rintro (h | ⟨h, -⟩)
        · omega
        · rw [h]
    have hcard := Finset.card_union_le (Finset.univ.filter fun j : Fin 10000 => w.toInt + 1 ≤ (κ j).toInt)
      (Finset.univ.filter fun j : Fin 10000 => κ j = w ∧ (j.val : ℤ) ≤ (9999#32).toInt)
    rw [← hsplit] at hcard
    have e0 : cntGe κ w.toInt = (Finset.univ.filter fun j : Fin 10000 => w.toInt ≤ (κ j).toInt).card := rfl
    have e1 : cntGe κ (w.toInt + 1) = (Finset.univ.filter fun j : Fin 10000 => w.toInt + 1 ≤ (κ j).toInt).card := rfl
    have e2 : cntLe (fun j => κ j = w) (9999#32).toInt = (Finset.univ.filter fun j : Fin 10000 => κ j = w ∧ (j.val : ℤ) ≤ (9999#32).toInt).card := rfl
    rw [e2]
    omega

theorem first_pair : pairOf (k0_pay16, k0_pay17) a = (0#32, 9999#32) :=
  Prod.ext rfl (show 0#32 + 9999#32 = 9999#32 by decide)

/-- A closed bracket's lower end is passed strictly by fewer than the thirty. -/
theorem few_above {κ : Fin 10000 → BitVec 32} {p : BitVec 32 × BitVec 32} (hb : Bracket 30 κ 1 p) : cntGe κ (p.1.toInt + 1) < 30 := by
  have := hb.few
  have := hb.lt
  have := hb.width
  rwa [show p.1.toInt + 1 = p.2.toInt by omega]

/-- The middle of a place is a column. -/
theorem place_mid {m : ℤ} {q : Fin 10000 → Prop} [DecidablePred q] {w : ℤ} {p : BitVec 32 × BitVec 32} (h : Place m q w p) :
    ((p.1 + p.2).sshiftRight 1).toInt < 10000 := by
  have h0 := h.nonneg
  have h1 := h.le
  have h2 := h.bound
  rw [BitVec.toInt_sshiftRight, Int.shiftRight_eq_div_pow, BitVec.toInt_add,
    Int.bmod_eq_of_le (by norm_num; omega) (by norm_num at *; omega)]
  norm_num at *
  omega

/-- From a closed bracket the second bisection ends at a closed place. -/
theorem place_of_bracket (p : IVec S200x1 32 × IVec S200x1 32) (u : BitVec 32) (hu : p.1 (ix2 a 0) = u) (hmany : 30 ≤ cntGe (rowOf v11 a) u.toInt)
    (hfew : cntGe (rowOf v11 a) (u.toInt + 1) < 30) :
    Place ((30 : ℤ) - cntGe (rowOf v11 a) (u.toInt + 1)) (fun j => rowOf v11 a j = u) 1
      (pairOf (Scf.fold (n := k0_t2_loop.trips) (fun _ q => (k0_pay3 (F := Bits) (k0_pay14 (F := Bits) v11 p.1) (k0_pay15 (F := Bits) v11 p.1) q.1 q.2,
        k0_pay4 (F := Bits) (k0_pay14 (F := Bits) v11 p.1) (k0_pay15 (F := Bits) v11 p.1) q.1 q.2)) (k0_pay16, k0_pay17)) a) := by
  have h0 := first_place (rowOf v11 a) u hmany hfew
  rw [← first_pair a] at h0
  have h14 := pay14_row v11 a p.1 (by rw [hu]; exact hfew)
  rw [hu] at h14
  have hcast : (30 : ℤ) - cntGe (rowOf v11 a) (u.toInt + 1) = ((30 - cntGe (rowOf v11 a) (u.toInt + 1) : ℕ) : ℤ) := by omega
  have hM : (30 - cntGe (rowOf v11 a) (u.toInt + 1) : ℕ) ≤ 30 := Nat.sub_le _ _
  rw [hcast] at h0 ⊢
  generalize (30 - cntGe (rowOf v11 a) (u.toInt + 1) : ℕ) = M at h0 h14 hM ⊢
  have h := fold_steps (n := k0_t2_loop.trips)
    (fun q => (k0_pay3 (F := Bits) (k0_pay14 (F := Bits) v11 p.1) (k0_pay15 (F := Bits) v11 p.1) q.1 q.2,
      k0_pay4 (F := Bits) (k0_pay14 (F := Bits) v11 p.1) (k0_pay15 (F := Bits) v11 p.1) q.1 q.2))
    (fun k q => k ≤ 14 → Place (M : ℤ) (fun j => rowOf v11 a j = u) (2 ^ (14 - k)) (pairOf q a)) (fun k q hp hk => by
      have hb := hp (by omega)
      rw [show 14 - k = (14 - (k + 1)) + 1 by omega, pow_succ, mul_comm] at hb
      have hm := place_mid hb
      dsimp only [pairOf] at hm
      beta_reduce
      rw [place_row v11 a p.1 q.1 q.2 M hM _ h14 hm, hu]
      exact hb.step (by norm_num)) _ (fun _ => h0)
  rw [show k0_t2_loop.trips = 14 by decide +kernel] at h
  exact h le_rfl

/-! ## A row's result -/

/-- The two bisections of a row end at the thirtieth place of its stable sort. -/
theorem fin_row (hv : ∀ k, (rowOf v11 a k).toInt < 2 ^ 31 - 1) (p29 : Fin 10000) (h29 : p29.val + 1 = 30) :
    rowOf v11 a (src (fun j => (rowOf v11 a j).toInt) p29) = (fin1 (F := Bits) v11).1 (ix2 a 0)
      ∧ (fin2 (F := Bits) v11).1 (ix2 a 0) = BitVec.ofNat 32 (src (fun j => (rowOf v11 a j).toInt) p29).val := by
  have hb := fin1_bracket v11 a hv
  unfold fin2
  generalize fin1 (F := Bits) v11 = p at hb ⊢
  have hmany := hb.many
  have hfew := few_above hb
  dsimp only [pairOf] at hmany hfew
  have hr := place_of_bracket v11 a p (p.1 (ix2 a 0)) rfl hmany hfew
  generalize Scf.fold (n := k0_t2_loop.trips) (fun _ q => (k0_pay3 (F := Bits) (k0_pay14 (F := Bits) v11 p.1) (k0_pay15 (F := Bits) v11 p.1) q.1 q.2,
        k0_pay4 (F := Bits) (k0_pay14 (F := Bits) v11 p.1) (k0_pay15 (F := Bits) v11 p.1) q.1 q.2)) (k0_pay16, k0_pay17) = r at hr ⊢
  obtain ⟨c, hc, hk, hi⟩ := src_of_bisect p29 h29 (rowOf v11 a) (pairOf p a) (pairOf r a) hb hr
  rw [hc]
  refine ⟨hk, BitVec.eq_of_toInt_eq ?_⟩
  have hlt := c.isLt
  rw [ofNat_toInt (by omega)]
  exact hi.symm

end Cert.Select.Knn

end
-- ==== Proof.SelFrame.lean ====
/-
  The selection call: what its outputs hold at each grid point, the run of the whole program, and its frame.
-/
module

public import proofs.«01_k».proof.Proof.SelRun
public import Idealize.ShloMosaic.Lib.Claim

@[expose] public section

set_option maxRecDepth 16384

noncomputable section

namespace Cert.Select.Knn

open Cert.Select Cert.Select.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The block of rows the body sees at point `t`. -/
abbrev rows (c : Dev nD) (t : Fin cfg0.N) : Vec F S200x10000 .f32 := iblk m c 0 t

/-- Arrays as found, outputs at the two results of the point's block of rows. -/
def selDats (_ : Fin 1) (c : Dev nD) : Dat τ (Elt F) Unit ℕ (UR sig nD τ) ℕ cfg0 c where
  A w := V m c (Pipeline.arrRef spec0 w)
  after w t := match w with
    | ⟨0, _⟩ => rows m c t
    | ⟨1, _⟩ => k0_pay5 (F := F) (fin1 (F := F) (k0_pay6 (rows m c t))).1
    | ⟨2, _⟩ => (fin2 (F := F) (k0_pay6 (rows m c t))).1
  Φ _ := Pipeline.ΦA spec0 c
  q _ := fullShare
  owed _ := 0

theorem sel_A (c : Dev nD) (w : Fin cfg0.W) : (selDats m 0 c).A w = V m c (Pipeline.arrRef spec0 w) := by
  dsimp only [selDats]

theorem sel_after0 (c : Dev nD) (t : Fin cfg0.N) : (selDats m 0 c).after 0 t = iblk m c 0 t := by dsimp only [selDats]
theorem sel_after1 (c : Dev nD) (t : Fin cfg0.N) :
    (selDats m 0 c).after 1 t = k0_pay5 (F := F) (fin1 (F := F) (k0_pay6 (rows m c t))).1 := by dsimp only [selDats]
theorem sel_after2 (c : Dev nD) (t : Fin cfg0.N) :
    (selDats m 0 c).after 2 t = (fin2 (F := F) (k0_pay6 (rows m c t))).1 := by dsimp only [selDats]

theorem sel_before0 (c : Dev nD) (t : Fin cfg0.N) (d) : (selDats m 0 c).before 0 t d = iblk m c 0 t :=
  before0_0_of m (selDats m 0 c) (sel_A m c 0) (sel_after0 m c) t d

abbrev scr : Memref sig .tc .vmem S200x10000 .i32 := Memref.whole cc0_scratch0

theorem sel_Phi (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

theorem sel_point (c : Dev nD) (t : Fin cfg0.N) :
    iprop((selDats m 0 c).Φ t.castSucc ∗ (selDats m 0 c).owesAt () t.castSucc
      ∗ (∃ d, owns (c : Thread nD τ) (st0_0 t) fullShare ((selDats m 0 c).before 0 t d))
      ∗ (∃ d, owns (c : Thread nD τ) (st0_1 t) fullShare ((selDats m 0 c).before 1 t d))
      ∗ (∃ d, owns (c : Thread nD τ) (st0_2 t) fullShare ((selDats m 0 c).before 2 t d)))
    ⊢ wp frame (wpE (defs₀ (F := F)) Variants.none c none) Set.univ (bodyAt0 t) (fun _ =>
      iprop((selDats m 0 c).Φ t.succ ∗ (selDats m 0 c).owesAt () t.succ
        ∗ owns (c : Thread nD τ) (st0_0 t) fullShare ((selDats m 0 c).after 0 t)
        ∗ owns (c : Thread nD τ) (st0_1 t) fullShare ((selDats m 0 c).after 1 t)
        ∗ owns (c : Thread nD τ) (st0_2 t) fullShare ((selDats m 0 c).after 2 t))) := by
  unfold bodyAt0
  simp only [sel_before0]
  rw [show (selDats m 0 c).Φ t.succ = (selDats m 0 c).Φ t.castSucc from rfl,
    show (selDats m 0 c).owesAt () t.succ = (selDats m 0 c).owesAt () t.castSucc from rfl,
    sel_after0, sel_after1, sel_after2]
  rw [show (selDats m 0 c).Φ t.castSucc = Pipeline.ΦA spec0 c from rfl, sel_Phi]
  iintro ⟨⟨HS0, Hg⟩, Ho, ⟨%d0, H0⟩, ⟨%d1, H1⟩, ⟨%d2, H2⟩⟩
  iapply (bodyRun c (grid0.coords t) _ _ _ _ _ _ _ _ (rows m c t) Set.univ _)
  isplitl [H0]; · iexact H0
  isplitl [H1]; · iexists _; iexact H1
  isplitl [H2]; · iexists _; iexact H2
  isplitl [HS0]; · iexact HS0
  iintro ⟨H0, H1, H2, HS0⟩
  isplitl [HS0 Hg]
  · isplitl [HS0]
    · iexact HS0
    iexact Hg
  isplitl [Ho]; · iexact Ho
  isplitl [H0]; · iexact H0
  isplitl [H1]; · iexact H1
  iexact H2

theorem sel_row (t : Fin cfg0.N) :
    defs₀ (F := F) .tc cfg0.body (cfg0.bodyArgs t (cfg0.slots t)) = bodyAt0 t := by
  unfold defs₀; rw [Defs.onTc_tc]

theorem sel_body (c : Dev nD) : BodyObligation (selDats (F := F) m 0 c) (defs₀ (F := F)) Variants.none () Set.univ := fun t => by
  rw [bigSep_W0, bigSep_W0, sel_row]
  exact triple_restated (sel_point m c t) rfl .rfl fun _ => .rfl

set_option backward.isDefEq.respectTransparency.types false in
/-- The launch: every array of the pipeline ends at what the data say, every counter at zero. -/
theorem sel_launch : θ_run defs (onTc (τ := τ) (main (F := F))) (s₀ m ρ)
    (fun r => (Pipeline.FramePost cfgs (selDats m) 0 (V m)) r ∧ r.2.sem = fun _ => 0) :=
  Pipeline.θ_run_frame (Q' := _) cfgs (selDats m) (0 : Fin 1) launch0 defs₀ Variants.none m ρ main
    (hbody := fun c => (sel_body m c).loose) (hshare := fun c => (selDats m 0 c).share_full fun _ => rfl)
    (howed := fun _ _ => rfl) (V := V m) (hmain := hmain m Variants.none) (hA := sel_A m) (hΦ := fun _ _ => rfl)

/-- The argument ends unchanged and every counter at zero. -/
theorem sel_frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (selDats m) (sel_A m) ((θ_run defs _ _).mono (fun _ h => h.1) (sel_launch m ρ)))
    ((θ_run defs _ _).mono (fun _ h => h.2) (sel_launch m ρ))

end Cert.Select.Knn

end
-- ==== Proof.SelArr.lean ====
/-
  The selection call's two output arrays, row by row: the value and the column of the thirtieth place of the row's stable sort,
  greatest first in the total order of the words.
-/
module

public import proofs.«01_k».proof.Proof.SelValue
public import proofs.«01_k».proof.Proof.SelFrame

@[expose] public section

set_option maxRecDepth 16384

noncomputable section

namespace Cert.Select.Knn

open Cert.Select Cert.Select.Gen Idealize.ShloMosaic Idealize.ShloMosaic.TcCoe Idealize.ShloMosaic.Bits _root_.Knn
open Idealize.ShloMosaic.Pipeline (Dat)

/-! ## The kernel's key is the sort's -/

/-- The key the kernel makes of a word, and the word it makes of a key. -/
def keyWord (b : BitVec 32) : BitVec 32 :=
  Scalar.select (IntOp.cmpi .sge b 0#32) b (IntOp.xori (IntOp.xori b 4294967295#32) 2147483648#32)
def wordKey (b : BitVec 32) : BitVec 32 :=
  Scalar.select (IntOp.cmpi .sge b 0#32) b (IntOp.xori (IntOp.xori b 2147483648#32) 4294967295#32)

theorem sge_zero (b : BitVec 32) : IntOp.cmpi .sge b 0#32 = BitVec.ofBool (!b.msb) := by
  show BitVec.ofBool ((0#32).sle b) = _
  rw [BitVec.msb_eq_toInt]
  congr 1
  rw [Bool.eq_iff_iff, BitVec.sle_iff_toInt_le]
  simp

theorem keyWord_eq (b : BitVec 32) : keyWord b = sortableKey b := by
  unfold keyWord
  rw [sge_zero]
  cases h : b.msb
  · rw [sortableKey_of_msb_false b h]; rfl
  · rw [sortableKey_of_msb_true b h]
    show (b ^^^ 4294967295#32) ^^^ 2147483648#32 = _
    rw [BitVec.xor_assoc]; rfl

theorem wordKey_eq (b : BitVec 32) : wordKey b = sortableKey b := by
  unfold wordKey
  rw [sge_zero]
  cases h : b.msb
  · rw [sortableKey_of_msb_false b h]; rfl
  · rw [sortableKey_of_msb_true b h]
    show (b ^^^ 2147483648#32) ^^^ 4294967295#32 = _
    rw [BitVec.xor_assoc]; rfl

theorem pay6_at (x : FVec Bits S200x10000 .f32) (a : Fin 200) (k : Fin 10000) : k0_pay6 (F := Bits) x (ix2 a k) = sortableKey (x (ix2 a k)) := by
  rw [← keyWord_eq]
  pointwise [k0_pay6]
  rfl

theorem pay5_at (w : IVec S200x1 32) (a : Fin 200) : k0_pay5 (F := Bits) w (ix2 a 0) = sortableKey (w (ix2 a 0)) :=
  (show k0_pay5 (F := Bits) w (ix2 a 0) = wordKey (w (ix2 a 0)) from rfl).trans (wordKey_eq _)

/-- Only the word of all ones below the sign has the greatest key. -/
theorem key_lt_top {b : BitVec 32} (h : b ≠ 2147483647#32) : (sortableKey b).toInt < 2 ^ 31 - 1 := by
  have hle := (sortableKey b).toInt_lt
  have hne : (sortableKey b).toInt ≠ 2 ^ 31 - 1 := fun e => h (by
    have e' : sortableKey b = 2147483647#32 := BitVec.eq_of_toInt_eq (e.trans (by decide))
    rw [← sortableKey_sortableKey b, e']; decide)
  norm_num at *
  omega

/-! ## The arrays -/

/-- The column at the thirtieth place of row `r`. -/
def col30 (x : FVec Bits S10000x10000 .f32) (r : Fin 10000) : Fin 10000 := src (fun j : Fin 10000 => (sortableKey (x (ix2 r j))).toInt) 29

variable (m : (ℓ : Loc nD τ sig) → Buf (Elt Bits) ℓ) (c : Dev nD)

theorem idx0 : ∀ t : Fin cfg0.N, win0_0.index t = ![t.val, 0] ∧ win0_1.index t = ![t.val, 0] ∧ win0_2.index t = ![t.val, 0] :=
  (by decide +kernel : ∀ t : Fin grid0.N, _)

theorem row_result (x : FVec Bits S200x10000 .f32) (a : Fin 200) (r : Fin 10000) (X : FVec Bits S10000x10000 .f32) (hX : ∀ i, X i ≠ 2147483647#32)
    (hx : ∀ k, x (ix2 a k) = X (ix2 r k)) :
    k0_pay5 (F := Bits) (fin1 (F := Bits) (k0_pay6 (F := Bits) x)).1 (ix2 a 0) = X (ix2 r (col30 X r))
      ∧ (fin2 (F := Bits) (k0_pay6 (F := Bits) x)).1 (ix2 a 0) = BitVec.ofNat 32 (col30 X r).val := by
  have hk : ∀ k, rowOf (k0_pay6 (F := Bits) x) a k = sortableKey (X (ix2 r k)) := fun k => by
    rw [← hx k]; exact pay6_at x a k
  have hr := fin_row (k0_pay6 (F := Bits) x) a (fun k => by rw [hk k]; exact key_lt_top (hX _)) 29 rfl
  have hf : (fun j : Fin 10000 => (rowOf (k0_pay6 (F := Bits) x) a j).toInt) = fun j : Fin 10000 => (sortableKey (X (ix2 r j))).toInt :=
    funext fun j => by rw [hk j]
  rw [hf, hk] at hr
  refine ⟨?_, hr.2⟩
  rw [pay5_at, ← hr.1]
  exact sortableKey_sortableKey _

theorem arr_val (hX : ∀ i, (m ((c.tc : Thread nD τ).loc main_arg0) : FVec Bits S10000x10000 .f32) i ≠ 2147483647#32) :
    (selDats m 0 c).arrAt 1 cfg0.N
      = fun y => (m ((c.tc : Thread nD τ).loc main_arg0) : FVec Bits S10000x10000 .f32) (ix2 (y 0) (col30 (m ((c.tc : Thread nD τ).loc main_arg0)) (y 0))) := by
  refine (selDats m 0 c).arrAt_eq_of_covers 1 _ (by decide +kernel) fun t _ y => ?_
  blk_simp
  rw [sel_after1]
  obtain ⟨a, b, rfl⟩ : ∃ (a : Fin 200) (b : Fin 1), y = ix2 a b := ⟨y 0, y 1, eq_ix2 y⟩
  obtain rfl : b = 0 := Subsingleton.elim _ _
  refine (row_result (rows m c t) a ((win0_1.blk t).view.emb (ix2 a 0) 0) (m ((c.tc : Thread nD τ).loc main_arg0)) hX fun k => ?_).1
  unfold rows
  blk_point [iblk, idx0 t]

theorem arr_idx (hX : ∀ i, (m ((c.tc : Thread nD τ).loc main_arg0) : FVec Bits S10000x10000 .f32) i ≠ 2147483647#32) :
    (selDats m 0 c).arrAt 2 cfg0.N = fun y => BitVec.ofNat 32 (col30 (m ((c.tc : Thread nD τ).loc main_arg0)) (y 0)).val := by
  refine (selDats m 0 c).arrAt_eq_of_covers 2 _ (by decide +kernel) fun t _ y => ?_
  blk_simp
  rw [sel_after2]
  obtain ⟨a, b, rfl⟩ : ∃ (a : Fin 200) (b : Fin 1), y = ix2 a b := ⟨y 0, y 1, eq_ix2 y⟩
  obtain rfl : b = 0 := Subsingleton.elim _ _
  refine (row_result (rows m c t) a ((win0_2.blk t).view.emb (ix2 a 0) 0) (m ((c.tc : Thread nD τ).loc main_arg0)) hX fun k => ?_).2
  unfold rows
  blk_point [iblk, idx0 t]

end Cert.Select.Knn

end
-- ==== Proof.SelBits.lean ====
/-
  The claims of the selection call: its frame, the frame of its reference, and that the two end at the same words.
-/
module

public import proofs.«01_k».proof.Defs
public import proofs.«01_k».proof.Proof.SelArr
public import proofs.«01_k».proof.Proof.TopRow
public import proofs.«01_k».proof.Proof.Gen.SelectRef.Run
public import proofs.«01_k».proof.Proof.Gen.Pre_no_top_word
public import Idealize.ShloMosaic.Lib.ReduceAll
public import Idealize.ShloMosaic.Lib.Claim

@[expose] public section

set_option maxRecDepth 16384

noncomputable section

namespace Cert.Proof

open Idealize.ShloMosaic Idealize.ShloMosaic.TcCoe Idealize.SL.Sem _root_.Knn
open Cert.Select.Knn (col30)

/-- A conjunction over a whole array of tests that the words differ from one word, read at an entry. -/
theorem ne_of_all {s u : Shape} {axes : List (Fin s.rank)} [Subsingleton u.Idx] (x y : IVec s 32) (w : BitVec 32) (i1 : IVec u 1)
    (h : s.ReducesTo axes u) (hu : 0 < u.numel) (j : u.Idx) (e : Host.reduce IntOp.andi (cmpi .ne x y) i1 h hu j = 1#1)
    (hy : ∀ i, y i = w) (i : s.Idx) : x i ≠ w := by
  have hi : IntOp.cmpi .ne (x i) (y i) = 1#1 := Host.reduce_andi_all _ _ h hu j e i
  intro hx
  rw [hx, hy i] at hi
  simp [IntOp.cmpi] at hi

/-- The precondition at an entry. -/
theorem ne_top (x : FVec Bits Cert.Select.S10000x10000 .f32) (h : Cert.Pre_no_top_word.fn (F := Bits) x = fun _ => 1#1)
    (i : Cert.Select.S10000x10000.Idx) : x i ≠ 2147483647#32 := by
  haveI : Subsingleton Cert.Pre_no_top_word.S_.Idx := ⟨fun a b => funext fun k => k.elim0⟩
  have e := congrFun h (fun k => k.elim0)
  unfold Cert.Pre_no_top_word.fn at e
  exact ne_of_all (bitcastToInt x) _ _ _ _ _ _ e (fun _ => rfl) i

/-- One column of a matrix, cut out at an offset, at a row. -/
theorem cut_ix2 {α : Type} {R C : ℕ} (q : Fin C) (x : (⟨2, ![R, C]⟩ : Shape).Idx → α)
    (h : (⟨2, ![R, C]⟩ : Shape).Slices ![0, q.val] ⟨2, ![R, 1]⟩) (r : Fin R) :
    extractStridedSlice ⟨2, ![R, 1]⟩ ![0, q.val] x h (ix2 r 0) = x (ix2 r q) := by
  unfold extractStridedSlice
  congr 1
  funext i
  match i with
  | ⟨0, _⟩ => exact Fin.ext (by simp [ix2])
  | ⟨1, _⟩ => exact Fin.ext (by simp [ix2])

/-- Column `q` of the two results of a row-wise selection of the `K` greatest, at every row. -/
theorem cut_top {R C K : ℕ} (hK : K ≤ C) (q : Fin K) (x : FVec Bits ⟨2, ![R, C]⟩ .f32)
    (h : (⟨2, ![R, C]⟩ : Shape).Slices (fun _ => 0) ⟨2, ![R, K]⟩) (hc : (⟨2, ![R, K]⟩ : Shape).Slices ![0, q.val] ⟨2, ![R, 1]⟩) :
    extractStridedSlice ⟨2, ![R, 1]⟩ ![0, q.val] (Host.topK ⟨2, ![R, K]⟩ 1 (FloatOps.cmpfTotal .gt) x h).1 hc
      = (fun y => x (ix2 (y 0) (src (fun j : Fin C => (sortableKey (x (ix2 (y 0) j))).toInt) (Fin.castLE hK q))))
    ∧ extractStridedSlice ⟨2, ![R, 1]⟩ ![0, q.val] (Host.topK ⟨2, ![R, K]⟩ 1 (FloatOps.cmpfTotal .gt) x h).2 hc
      = (fun y => BitVec.ofNat 32 (src (fun j : Fin C => (sortableKey (x (ix2 (y 0) j))).toInt) (Fin.castLE hK q)).val) := by
  have hrow := fun r : Fin R => topK_row hK (fun b : BitVec 32 => (sortableKey b).toInt) (FloatOps.cmpfTotal (F := Bits) (φ := .f32) .gt) gt_bits x h r q
  constructor
  · funext y
    obtain ⟨a, b, rfl⟩ : ∃ (a : Fin R) (b : Fin 1), y = ix2 a b := ⟨y 0, y 1, eq_ix2 y⟩
    obtain rfl : b = 0 := Subsingleton.elim _ _
    exact (cut_ix2 q _ hc a).trans (hrow a).1
  · funext y
    obtain ⟨a, b, rfl⟩ : ∃ (a : Fin R) (b : Fin 1), y = ix2 a b := ⟨y 0, y 1, eq_ix2 y⟩
    obtain rfl : b = 0 := Subsingleton.elim _ _
    exact (cut_ix2 q _ hc a).trans (hrow a).2

/-- The thirtieth column of a row-wise selection of the 30 greatest of 10000, in `col30`'s words. -/
theorem ref_row (x : FVec Bits Cert.Select.S10000x10000 .f32) (h : Cert.Select.S10000x10000.Slices (fun _ => 0) ⟨2, ![10000, 30]⟩)
    (hc : (⟨2, ![10000, 30]⟩ : Shape).Slices ![0, 29] ⟨2, ![10000, 1]⟩) :
    extractStridedSlice ⟨2, ![10000, 1]⟩ ![0, 29] (Host.topK ⟨2, ![10000, 30]⟩ 1 (FloatOps.cmpfTotal .gt) x h).1 hc
      = (fun y => x (ix2 (y 0) (col30 x (y 0))))
    ∧ extractStridedSlice ⟨2, ![10000, 1]⟩ ![0, 29] (Host.topK ⟨2, ![10000, 30]⟩ 1 (FloatOps.cmpfTotal .gt) x h).2 hc
      = (fun y => BitVec.ofNat 32 (col30 x (y 0)).val) :=
  cut_top (R := 10000) (C := 10000) (K := 30) (by norm_num) 29 x h hc

/-- The selection call's frame. -/
theorem frame_select : Cert.quiescent_Select := fun m ρ _ => Cert.Select.Knn.sel_frame m ρ

/-- The same on the arguments the precondition admits. -/
theorem frame_select_pre : Cert.quiescent_Select_pre_no_top_word := fun m ρ _ => Cert.Select.Knn.sel_frame m ρ

/-- The reference's frame. -/
theorem frame_selectRef : Cert.quiescent_SelectRef := fun m ρ _ =>
  (θ_run Cert.SelectRef.defs _ _).mono (fun r h => ⟨fun c => (h c).2.2, sem_eq_zero_of_no_sems (by decide) r.2⟩)
    (Cert.SelectRef.Value.run (F := Bits) m ρ)

/-- The selection call and its reference end at the same words. -/
theorem bitexact_select : Cert.bitexact_Select_SelectRef_pre_no_top_word := by
  intro m ρ m' ρ' hpre hagree
  have hX := fun c : Dev Cert.Select.nD => ne_top _ (hpre c)
  refine ⟨fun c y => (m ((c.tc : Thread Cert.Select.nD Cert.Select.τ).loc Cert.Select.main_arg0) : FVec Bits Cert.Select.S10000x10000 .f32)
      (ix2 (y 0) (col30 (m ((c.tc : Thread Cert.Select.nD Cert.Select.τ).loc Cert.Select.main_arg0)) (y 0))),
    fun c y => BitVec.ofNat 32 (col30 (m ((c.tc : Thread Cert.Select.nD Cert.Select.τ).loc Cert.Select.main_arg0)) (y 0)).val, ?_, ?_⟩
  · refine (θ_run Cert.Select.defs _ _).mono (fun r h c => ⟨((h.1.1 c).1 1).trans (Cert.Select.Knn.arr_val m c (hX c)),
      ((h.1.1 c).1 2).trans (Cert.Select.Knn.arr_idx m c (hX c)), h.2.1 c⟩)
      (θ_run_and (Cert.Select.Knn.sel_launch m ρ) (Cert.Select.Knn.sel_frame m ρ))
  · refine (θ_run Cert.SelectRef.defs _ _).mono (fun r h c => ?_) (Cert.SelectRef.Value.run (F := Bits) m' ρ')
    obtain ⟨h1, h2, h3⟩ := h c
    rw [hagree c] at h1 h2
    exact ⟨h1.trans (ref_row _ _ _).1, h2.trans (ref_row _ _ _).2, h3⟩

end Cert.Proof

end
-- ==== Proof.lean ====
/-
  The certificate: its claims together.
-/
module

public import proofs.«01_k».proof.Defs
public import proofs.«01_k».proof.Proof.Algebraic
public import proofs.«01_k».proof.Proof.SelBits

@[expose] public section

noncomputable section

namespace Cert.Proof

/-- All the claims. -/
theorem claim : Cert.Claim := ⟨Cert.Select.Gen.facts, Cert.SelectRef.Gen.facts, Cert.Kernel.Gen.facts, Cert.KernelIdeal.Gen.facts,
  Cert.ReferenceIdeal.Gen.facts, Cert.Pre_no_top_word.Gen.facts,
  frame_select, frame_select_pre, frame_selectRef, frame_kernel, frame_kernelIdeal, frame_referenceIdeal, bitexact_select, trivial, algebraic⟩

end Cert.Proof

end
